-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_and_in_range [hPre_finite_and_in_range : Cert.Pre_finite_and_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_and_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_and_in_range [hPre_finite_and_in_range : Cert.Pre_finite_and_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_and_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_and_in_range [hKernel2Ideal : Cert.Kernel2Ideal.Facts] [hPre_finite_and_in_range : Cert.Pre_finite_and_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_and_in_range m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_and_in_range [hReference2Ideal : Cert.Reference2Ideal.Facts] [hPre_finite_and_in_range : Cert.Pre_finite_and_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_and_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)
      ∧ m' ((c.tc : Thread Cert.Reference.nD Cert.Reference.τ).loc Cert.Reference.main_arg5) = m ((c.tc : Thread Cert.Kernel.nD Cert.Kernel.τ).loc Cert.Kernel.main_arg5)) →
    ∃ (v0 : (c : Dev Cert.Kernel.nD) → Buf (Elt Bits) ((c.tc : Thread Cert.Kernel.nD Cert.Kernel.τ).loc Cert.Kernel.main_v45)) (v1 : (c : Dev Cert.Kernel.nD) → Buf (Elt Bits) ((c.tc : Thread Cert.Kernel.nD Cert.Kernel.τ).loc Cert.Kernel.main_v41)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v45) = v0 c
          ∧ r.2.mem ((c.tc : Thread Cert.Kernel.nD Cert.Kernel.τ).loc Cert.Kernel.main_v41) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4)
          ∧ r.2.mem ((c.tc : Thread Cert.Kernel.nD Cert.Kernel.τ).loc Cert.Kernel.main_arg5) = m ((c.tc : Thread Cert.Kernel.nD Cert.Kernel.τ).loc Cert.Kernel.main_arg5))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v53) = v0 c
          ∧ r.2.mem ((c.tc : Thread Cert.Reference.nD Cert.Reference.τ).loc Cert.Reference.main_v57) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4)
          ∧ r.2.mem ((c.tc : Thread Cert.Reference.nD Cert.Reference.τ).loc Cert.Reference.main_arg5) = m' ((c.tc : Thread Cert.Reference.nD Cert.Reference.τ).loc Cert.Reference.main_arg5))

def preserves_Kernel2_Kernel2Ideal : Prop :=
  True

def algebraic_Kernel2Ideal_Reference2Ideal_pre_finite_and_in_range [hKernel2Ideal : Cert.Kernel2Ideal.Facts] [hReference2Ideal : Cert.Reference2Ideal.Facts] [hPre_finite_and_in_range : Cert.Pre_finite_and_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_and_in_range m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hReference : Cert.Reference.Facts) (hKernel2 : Cert.Kernel2.Facts) (hKernel2Ideal : Cert.Kernel2Ideal.Facts) (hReference2Ideal : Cert.Reference2Ideal.Facts) (hPre_finite_and_in_range : Cert.Pre_finite_and_in_range.Facts),
    quiescent_Kernel (hKernel := hKernel)
    ∧ quiescent_Reference (hReference := hReference)
    ∧ quiescent_Kernel2 (hKernel2 := hKernel2)
    ∧ quiescent_Kernel2Ideal (hKernel2Ideal := hKernel2Ideal)
    ∧ quiescent_Kernel2Ideal_pre_finite_and_in_range (hKernel2Ideal := hKernel2Ideal) (hPre_finite_and_in_range := hPre_finite_and_in_range)
    ∧ quiescent_Reference2Ideal (hReference2Ideal := hReference2Ideal)
    ∧ quiescent_Reference2Ideal_pre_finite_and_in_range (hReference2Ideal := hReference2Ideal) (hPre_finite_and_in_range := hPre_finite_and_in_range)
    ∧ bitexact_Kernel_Reference (hKernel := hKernel) (hReference := hReference)
    ∧ preserves_Kernel2_Kernel2Ideal
    ∧ algebraic_Kernel2Ideal_Reference2Ideal_pre_finite_and_in_range (hKernel2Ideal := hKernel2Ideal) (hReference2Ideal := hReference2Ideal) (hPre_finite_and_in_range := hPre_finite_and_in_range)
-- ==== Pre_finite_and_in_range.lean ====
abbrev S32x20000x81 : Shape := ⟨3, ![32, 20000, 81]⟩
abbrev S32x20000 : Shape := ⟨2, ![32, 20000]⟩
abbrev S_ : Shape := ⟨0, ![]⟩
abbrev S32x20000x1 : Shape := ⟨3, ![32, 20000, 1]⟩

class Facts : Prop where
  bcast_S_S32x20000x81 : S_.BroadcastsInDim S32x20000x81 (![] : Fin 0 → Fin S32x20000x81.rank)
  bcast_S_S32x20000 : S_.BroadcastsInDim S32x20000 (![] : Fin 0 → Fin S32x20000.rank)
  bcast_S32x20000_S32x20000x1_0_1 : S32x20000.BroadcastsInDim S32x20000x1 (![0, 1] : Fin 2 → Fin S32x20000x1.rank)
  bcast_S32x20000x1_S32x20000x81_0_1_2 : S32x20000x1.BroadcastsInDim S32x20000x81 (![0, 1, 2] : Fin 3 → Fin S32x20000x81.rank)

variable [Facts]

def fn {F : FTy → Type} [FloatOps F] (main_arg0 : FVec F S32x20000x81 .f32) (main_arg1 : IVec S32x20000 32) (main_arg2 : IVec S32x20000 32) (main_arg3 : FVec F S_ .f32) : IVec S32x20000x81 1 :=
  let main_v0 : FVec F S32x20000x81 .f32 := Host.absf main_arg0
  let main_cst : FVec F S_ .f32 := constant S_ .f32 0x7F800000#32
  let main_v1 : FVec F S32x20000x81 .f32 := broadcastInDim S32x20000x81 ![] bcast_S_S32x20000x81 main_cst
  let main_v2 : IVec S32x20000x81 1 := cmpf .olt main_v0 main_v1
  let main_c : IVec S_ 32 := constantI S_ 32 0#32
  let main_v3 : IVec S32x20000 32 := broadcastInDim S32x20000 ![] bcast_S_S32x20000 main_c
  let main_v4 : IVec S32x20000 1 := cmpi .sge main_arg2 main_v3
  let main_v5 : IVec S32x20000x1 1 := broadcastInDim S32x20000x1 ![0, 1] bcast_S32x20000_S32x20000x1_0_1 main_v4
  let main_v6 : IVec S32x20000x81 1 := broadcastInDim S32x20000x81 ![0, 1, 2] bcast_S32x20000x1_S32x20000x81_0_1_2 main_v5
  let main_v7 : IVec S32x20000x81 1 := andi main_v2 main_v6
  let main_c_0 : IVec S_ 32 := constantI S_ 32 81#32
  let main_v8 : IVec S32x20000 32 := broadcastInDim S32x20000 ![] bcast_S_S32x20000 main_c_0
  let main_v9 : IVec S32x20000 1 := cmpi .slt main_arg2 main_v8
  let main_v10 : IVec S32x20000x1 1 := broadcastInDim S32x20000x1 ![0, 1] bcast_S32x20000_S32x20000x1_0_1 main_v9
  let main_v11 : IVec S32x20000x81 1 := broadcastInDim S32x20000x81 ![0, 1, 2] bcast_S32x20000x1_S32x20000x81_0_1_2 main_v10
  let main_v12 : IVec S32x20000x81 1 := andi main_v7 main_v11
  let main_c_1 : IVec S_ 32 := constantI S_ 32 0#32
  let main_v13 : IVec S32x20000 32 := broadcastInDim S32x20000 ![] bcast_S_S32x20000 main_c_1
  let main_v14 : IVec S32x20000 1 := cmpi .sle main_arg1 main_v13
  let main_v15 : IVec S32x20000x1 1 := broadcastInDim S32x20000x1 ![0, 1] bcast_S32x20000_S32x20000x1_0_1 main_v14
  let main_v16 : IVec S32x20000x81 1 := broadcastInDim S32x20000x81 ![0, 1, 2] bcast_S32x20000x1_S32x20000x81_0_1_2 main_v15
  let main_v17 : IVec S32x20000x81 1 := ori main_v16 main_v12
  main_v17
-- ==== Kernel.lean ====
abbrev S32x20000x2 : Shape := ⟨3, ![32, 20000, 2]⟩
abbrev S32x20000x4 : Shape := ⟨3, ![32, 20000, 4]⟩
abbrev S32x20000 : Shape := ⟨2, ![32, 20000]⟩
abbrev S2 : Shape := ⟨1, ![2]⟩
abbrev S_ : Shape := ⟨0, ![]⟩
abbrev S32x8x5000 : Shape := ⟨3, ![32, 8, 5000]⟩
abbrev S32x8x10000 : Shape := ⟨3, ![32, 8, 10000]⟩
abbrev S32x20000x1 : Shape := ⟨3, ![32, 20000, 1]⟩
abbrev S1x1x2 : Shape := ⟨3, ![1, 1, 2]⟩
abbrev S32x1x128 : Shape := ⟨3, ![32, 1, 128]⟩
abbrev S1x8x5000 : Shape := ⟨3, ![1, 8, 5000]⟩
abbrev S1x8x10000 : Shape := ⟨3, ![1, 8, 10000]⟩
abbrev S1x1x128 : Shape := ⟨3, ![1, 1, 128]⟩
abbrev S8x5000 : Shape := ⟨2, ![8, 5000]⟩
abbrev S1 : Shape := ⟨1, ![1]⟩
abbrev S1x1x1 : Shape := ⟨3, ![1, 1, 1]⟩
abbrev S8x10000 : Shape := ⟨2, ![8, 10000]⟩
abbrev S1x128 : Shape := ⟨2, ![1, 128]⟩
abbrev S32x1x1 : Shape := ⟨3, ![32, 1, 1]⟩
abbrev S32 : Shape := ⟨1, ![32]⟩

abbrev nBuf : Space → Nat
  | .hbm => 58
  | .vmem => 16
  | .smem => 0
  | _ => 0

abbrev bufTy : (tb : Table) → Fin (tcTables nBuf tb) → BufTy
  | .hbm, ⟨0, _⟩ => ⟨S32x20000x2, .f32⟩
  | .hbm, ⟨1, _⟩ => ⟨S32x20000x4, .f32⟩
  | .hbm, ⟨2, _⟩ => ⟨S32x20000, .i32⟩
  | .hbm, ⟨3, _⟩ => ⟨S32x20000, .i32⟩
  | .hbm, ⟨4, _⟩ => ⟨S32x20000, .i32⟩
  | .hbm, ⟨5, _⟩ => ⟨S32x20000x4, .f32⟩
  | .hbm, ⟨6, _⟩ => ⟨S2, .i32⟩
  | .hbm, ⟨7, _⟩ => ⟨S_, .i32⟩
  | .hbm, ⟨8, _⟩ => ⟨S2, .i32⟩
  | .hbm, ⟨9, _⟩ => ⟨S2, .i1⟩
  | .hbm, ⟨10, _⟩ => ⟨S32x8x5000, .f32⟩
  | .hbm, ⟨11, _⟩ => ⟨S32x8x10000, .f32⟩
  | .hbm, ⟨12, _⟩ => ⟨S32x8x10000, .f32⟩
  | .hbm, ⟨13, _⟩ => ⟨S32x20000x1, .i32⟩
  | .hbm, ⟨14, _⟩ => ⟨S2, .i32⟩
  | .hbm, ⟨15, _⟩ => ⟨S1x1x2, .i32⟩
  | .hbm, ⟨16, _⟩ => ⟨S32x20000x2, .i32⟩
  | .hbm, ⟨17, _⟩ => ⟨S32x20000x2, .i32⟩
  | .hbm, ⟨18, _⟩ => ⟨S32x20000x2, .i32⟩
  | .hbm, ⟨19, _⟩ => ⟨S32x8x5000, .i32⟩
  | .hbm, ⟨20, _⟩ => ⟨S32x20000x1, .i32⟩
  | .hbm, ⟨21, _⟩ => ⟨S2, .i32⟩
  | .hbm, ⟨22, _⟩ => ⟨S1x1x2, .i32⟩
  | .hbm, ⟨23, _⟩ => ⟨S32x20000x2, .i32⟩
  | .hbm, ⟨24, _⟩ => ⟨S32x20000x2, .i32⟩
  | .hbm, ⟨25, _⟩ => ⟨S32x20000x2, .i32⟩
  | .hbm, ⟨26, _⟩ => ⟨S32x8x5000, .i32⟩
  | .hbm, ⟨27, _⟩ => ⟨S32x20000x1, .i32⟩
  | .hbm, ⟨28, _⟩ => ⟨S2, .i32⟩
  | .hbm, ⟨29, _⟩ => ⟨S1x1x2, .i32⟩
  | .hbm, ⟨30, _⟩ => ⟨S32x20000x2, .i32⟩
  | .hbm, ⟨31, _⟩ => ⟨S32x20000x2, .i32⟩
  | .hbm, ⟨32, _⟩ => ⟨S32x20000x2, .i32⟩
  | .hbm, ⟨33, _⟩ => ⟨S32x8x5000, .i32⟩
  | .hbm, ⟨34, _⟩ => ⟨S_, .i32⟩
  | .hbm, ⟨35, _⟩ => ⟨S32x20000, .i32⟩
  | .hbm, ⟨36, _⟩ => ⟨S32x20000, .i1⟩
  | .hbm, ⟨37, _⟩ => ⟨S32x20000, .f32⟩
  | .hbm, ⟨38, _⟩ => ⟨S32x20000x1, .f32⟩
  | .hbm, ⟨39, _⟩ => ⟨S32x20000x4, .f32⟩
  | .hbm, ⟨40, _⟩ => ⟨S32x8x10000, .f32⟩
  | .hbm, ⟨41, _⟩ => ⟨S32x1x128, .f32⟩
  | .hbm, ⟨42, _⟩ => ⟨S32x1x1, .f32⟩
  | .hbm, ⟨43, _⟩ => ⟨S32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S32x1x1, .f32⟩
  | .hbm, ⟨49, _⟩ => ⟨S32, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S32x1x1, .f32⟩
  | .hbm, ⟨54, _⟩ => ⟨S32, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S1x8x5000, .f32⟩
  | .local _ .vmem, ⟨1, _⟩ => ⟨S1x8x5000, .f32⟩
  | .local _ .vmem, ⟨2, _⟩ => ⟨S1x8x5000, .i32⟩
  | .local _ .vmem, ⟨3, _⟩ => ⟨S1x8x5000, .i32⟩
  | .local _ .vmem, ⟨4, _⟩ => ⟨S1x8x5000, .i32⟩
  | .local _ .vmem, ⟨5, _⟩ => ⟨S1x8x5000, .i32⟩
  | .local _ .vmem, ⟨6, _⟩ => ⟨S1x8x5000, .i32⟩
  | .local _ .vmem, ⟨7, _⟩ => ⟨S1x8x5000, .i32⟩
  | .local _ .vmem, ⟨8, _⟩ => ⟨S1x8x10000, .f32⟩
  | .local _ .vmem, ⟨9, _⟩ => ⟨S1x8x10000, .f32⟩
  | .local _ .vmem, ⟨10, _⟩ => ⟨S1x8x10000, .f32⟩
  | .local _ .vmem, ⟨11, _⟩ => ⟨S1x8x10000, .f32⟩
  | .local _ .vmem, ⟨12, _⟩ => ⟨S1x8x10000, .f32⟩
  | .local _ .vmem, ⟨13, _⟩ => ⟨S1x8x10000, .f32⟩
  | .local _ .vmem, ⟨14, _⟩ => ⟨S1x1x128, .f32⟩
  | .local _ .vmem, ⟨15, _⟩ => ⟨S1x1x128, .f32⟩
  | _, _ => ⟨S32x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst : Ref sig .tc := ⟨.hbm, 44, rfl⟩
abbrev main_v36 : Ref sig .tc := ⟨.hbm, 45, rfl⟩
abbrev main_cst_1 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_2 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_3 : Ref sig .tc := ⟨.hbm, 55, rfl⟩
abbrev main_v44 : Ref sig .tc := ⟨.hbm, 56, rfl⟩
abbrev main_v45 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32_47 : BitVec 32 := 0#32
  let c31_i32 : BitVec 32 := 31#32
  let v116 : BitVec 32 := Scalar.addi c0_i32_47 c31_i32
  let c1_i32_48 : BitVec 32 := 1#32
  ⟨c0_i32_47, v116, c1_i32_48⟩
@[reducible] def k0_t2_loop : Scf.Loop 32 :=
  let c0_i32_52 : BitVec 32 := 0#32
  let c15_i32 : BitVec 32 := 15#32
  let v130 : BitVec 32 := Scalar.addi c0_i32_52 c15_i32
  let c1_i32_53 : BitVec 32 := 1#32
  ⟨c0_i32_52, v130, c1_i32_53⟩
@[reducible] def k0_t3_loop : Scf.Loop 32 :=
  let c0_i32_59 : BitVec 32 := 0#32
  let c31_i32_60 : BitVec 32 := 31#32
  let v148 : BitVec 32 := Scalar.addi c0_i32_59 c31_i32_60
  let c1_i32_61 : BitVec 32 := 1#32
  ⟨c0_i32_59, v148, c1_i32_61⟩
@[reducible] def k0_t4_loop : Scf.Loop 32 :=
  let c0_i32_65 : BitVec 32 := 0#32
  let c15_i32_66 : BitVec 32 := 15#32
  let v162 : BitVec 32 := Scalar.addi c0_i32_65 c15_i32_66
  let c1_i32_67 : BitVec 32 := 1#32
  ⟨c0_i32_65, v162, c1_i32_67⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x5000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x5000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference.lean ====
abbrev S32x20000x2 : Shape := ⟨3, ![32, 20000, 2]⟩
abbrev S32x20000x4 : Shape := ⟨3, ![32, 20000, 4]⟩
abbrev S32x20000 : Shape := ⟨2, ![32, 20000]⟩
abbrev S_ : Shape := ⟨0, ![]⟩
abbrev S32x20000x1 : Shape := ⟨3, ![32, 20000, 1]⟩
abbrev S20000 : Shape := ⟨1, ![20000]⟩
abbrev S20000x1 : Shape := ⟨2, ![20000, 1]⟩
abbrev S20000x2 : Shape := ⟨2, ![20000, 2]⟩
abbrev S8x5000 : Shape := ⟨2, ![8, 5000]⟩
abbrev S32x8x10000 : Shape := ⟨3, ![32, 8, 10000]⟩
abbrev S32x8x5000 : Shape := ⟨3, ![32, 8, 5000]⟩
abbrev S32x1x128 : Shape := ⟨3, ![32, 1, 128]⟩
abbrev S1x128 : Shape := ⟨2, ![1, 128]⟩
abbrev S1x8x5000 : Shape := ⟨3, ![1, 8, 5000]⟩
abbrev S1 : Shape := ⟨1, ![1]⟩
abbrev S1x1x1 : Shape := ⟨3, ![1, 1, 1]⟩
abbrev S1x8x10000 : Shape := ⟨3, ![1, 8, 10000]⟩
abbrev S8x10000 : Shape := ⟨2, ![8, 10000]⟩
abbrev S1x1x128 : Shape := ⟨3, ![1, 1, 128]⟩
abbrev S32x1x1 : Shape := ⟨3, ![32, 1, 1]⟩
abbrev S32 : Shape := ⟨1, ![32]⟩

abbrev nBuf : Space → Nat
  | .hbm => 74
  | .vmem => 7
  | .smem => 0
  | _ => 0

abbrev bufTy : (tb : Table) → Fin (tcTables nBuf tb) → BufTy
  | .hbm, ⟨0, _⟩ => ⟨S32x20000x2, .f32⟩
  | .hbm, ⟨1, _⟩ => ⟨S32x20000x4, .f32⟩
  | .hbm, ⟨2, _⟩ => ⟨S32x20000, .i32⟩
  | .hbm, ⟨3, _⟩ => ⟨S32x20000, .i32⟩
  | .hbm, ⟨4, _⟩ => ⟨S32x20000, .i32⟩
  | .hbm, ⟨5, _⟩ => ⟨S32x20000x4, .f32⟩
  | .hbm, ⟨6, _⟩ => ⟨S_, .i32⟩
  | .hbm, ⟨7, _⟩ => ⟨S32x20000, .i32⟩
  | .hbm, ⟨8, _⟩ => ⟨S32x20000x1, .f32⟩
  | .hbm, ⟨9, _⟩ => ⟨S32x20000, .f32⟩
  | .hbm, ⟨10, _⟩ => ⟨S32x20000x1, .f32⟩
  | .hbm, ⟨11, _⟩ => ⟨S32x20000, .f32⟩
  | .hbm, ⟨12, _⟩ => ⟨S32x20000, .f32⟩
  | .hbm, ⟨13, _⟩ => ⟨S20000, .i32⟩
  | .hbm, ⟨14, _⟩ => ⟨S_, .i32⟩
  | .hbm, ⟨15, _⟩ => ⟨S20000, .i32⟩
  | .hbm, ⟨16, _⟩ => ⟨S20000x1, .i32⟩
  | .hbm, ⟨17, _⟩ => ⟨S20000x1, .i32⟩
  | .hbm, ⟨18, _⟩ => ⟨S20000x2, .i32⟩
  | .hbm, ⟨19, _⟩ => ⟨S8x5000, .i32⟩
  | .hbm, ⟨20, _⟩ => ⟨S32x20000x4, .f32⟩
  | .hbm, ⟨21, _⟩ => ⟨S32x20000x4, .f32⟩
  | .hbm, ⟨22, _⟩ => ⟨S_, .f32⟩
  | .hbm, ⟨23, _⟩ => ⟨S32x20000x4, .f32⟩
  | .hbm, ⟨24, _⟩ => ⟨S32x20000x4, .i1⟩
  | .hbm, ⟨25, _⟩ => ⟨S_, .f32⟩
  | .hbm, ⟨26, _⟩ => ⟨S32x20000x4, .f32⟩
  | .hbm, ⟨27, _⟩ => ⟨S32x20000x4, .f32⟩
  | .hbm, ⟨28, _⟩ => ⟨S32x20000x4, .f32⟩
  | .hbm, ⟨29, _⟩ => ⟨S_, .f32⟩
  | .hbm, ⟨30, _⟩ => ⟨S32x20000x4, .f32⟩
  | .hbm, ⟨31, _⟩ => ⟨S32x20000x4, .f32⟩
  | .hbm, ⟨32, _⟩ => ⟨S32x20000x4, .f32⟩
  | .hbm, ⟨33, _⟩ => ⟨S_, .i32⟩
  | .hbm, ⟨34, _⟩ => ⟨S32x20000, .i32⟩
  | .hbm, ⟨35, _⟩ => ⟨S32x20000, .i1⟩
  | .hbm, ⟨36, _⟩ => ⟨S32x20000, .f32⟩
  | .hbm, ⟨37, _⟩ => ⟨S32x20000x1, .f32⟩
  | .hbm, ⟨38, _⟩ => ⟨S32x20000x4, .f32⟩
  | .hbm, ⟨39, _⟩ => ⟨S32x20000x4, .f32⟩
  | .hbm, ⟨40, _⟩ => ⟨S32x8x10000, .f32⟩
  | .hbm, ⟨41, _⟩ => ⟨S32x20000x1, .f32⟩
  | .hbm, ⟨42, _⟩ => ⟨S32x20000x1, .f32⟩
  | .hbm, ⟨43, _⟩ => ⟨S32x20000x2, .f32⟩
  | .hbm, ⟨44, _⟩ => ⟨S32x8x5000, .f32⟩
  | .hbm, ⟨45, _⟩ => ⟨S32x20000x1, .i32⟩
  | .hbm, ⟨46, _⟩ => ⟨S32x20000x1, .i32⟩
  | .hbm, ⟨47, _⟩ => ⟨S32x20000x2, .i32⟩
  | .hbm, ⟨48, _⟩ => ⟨S32x8x5000, .i32⟩
  | .hbm, ⟨49, _⟩ => ⟨S32x20000x1, .i32⟩
  | .hbm, ⟨50, _⟩ => ⟨S32x20000x1, .i32⟩
  | .hbm, ⟨51, _⟩ => ⟨S32x20000x2, .i32⟩
  | .hbm, ⟨52, _⟩ => ⟨S32x8x5000, .i32⟩
  | .hbm, ⟨53, _⟩ => ⟨S32x20000x1, .i32⟩
  | .hbm, ⟨54, _⟩ => ⟨S32x20000x1, .i32⟩
  | .hbm, ⟨55, _⟩ => ⟨S32x20000x2, .i32⟩
  | .hbm, ⟨56, _⟩ => ⟨S32x8x5000, .i32⟩
  | .hbm, ⟨57, _⟩ => ⟨S32x1x128, .f32⟩
  | .hbm, ⟨58, _⟩ => ⟨S32x1x1, .f32⟩
  | .hbm, ⟨59, _⟩ => ⟨S32, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S32x1x1, .f32⟩
  | .hbm, ⟨65, _⟩ => ⟨S32, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S32x1x1, .f32⟩
  | .hbm, ⟨70, _⟩ => ⟨S32, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S32x8x5000, .f32⟩
  | .local _ .vmem, ⟨1, _⟩ => ⟨S32x8x5000, .i32⟩
  | .local _ .vmem, ⟨2, _⟩ => ⟨S32x8x5000, .i32⟩
  | .local _ .vmem, ⟨3, _⟩ => ⟨S32x8x5000, .i32⟩
  | .local _ .vmem, ⟨4, _⟩ => ⟨S8x5000, .i32⟩
  | .local _ .vmem, ⟨5, _⟩ => ⟨S32x8x10000, .f32⟩
  | .local _ .vmem, ⟨6, _⟩ => ⟨S32x1x128, .f32⟩
  | _, _ => ⟨S32x20000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_cst_5 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let v4 : Index := Scalar.indexCast arg7
  let c0_2 : Index := 0#32
  let c0_3 : Index := 0#32
  ![v4.toNat, 0, 0]
@[reducible] def k0_t2_loop : Scf.Loop 32 :=
  let c0_i32_22 : BitVec 32 := 0#32
  let c20000_i32 : BitVec 32 := 20000#32
  let v60 : BitVec 32 := Scalar.addi c0_i32_22 c20000_i32
  let c1_i32_23 : BitVec 32 := 1#32
  ⟨c0_i32_22, v60, c1_i32_23⟩
@[reducible] def k0_t3_loop : Scf.Loop 32 :=
  let c0_i32_26 : BitVec 32 := 0#32
  let c20000_i32_27 : BitVec 32 := 20000#32
  let v67 : BitVec 32 := Scalar.addi c0_i32_26 c20000_i32_27
  let c1_i32_28 : BitVec 32 := 1#32
  ⟨c0_i32_26, v67, c1_i32_28⟩
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let v87 : Index := Scalar.indexCast arg7
  let c0_34 : Index := 0#32
  let c0_35 : Index := 0#32
  ![v87.toNat, 0, 0]
def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let v113 : Index := Scalar.indexCast arg7
  let c0_43 : Index := 0#32
  let c0_44 : Index := 0#32
  ![v113.toNat, 0, 0]
abbrev stage0_0 : Fin 1 → Memref sig .tc .vmem S32x8x5000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8x5000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8x5000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x8x5000 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x5000 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x8x10000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Kernel2.lean ====
abbrev S32x20000x81 : Shape := ⟨3, ![32, 20000, 81]⟩
abbrev S32x20000 : Shape := ⟨2, ![32, 20000]⟩
abbrev S_ : Shape := ⟨0, ![]⟩
abbrev S32x20000x1 : Shape := ⟨3, ![32, 20000, 1]⟩
abbrev S32x1x128 : Shape := ⟨3, ![32, 1, 128]⟩
abbrev S1x4000x81 : Shape := ⟨3, ![1, 4000, 81]⟩
abbrev S1x4000x1 : Shape := ⟨3, ![1, 4000, 1]⟩
abbrev S1x1x128 : Shape := ⟨3, ![1, 1, 128]⟩
abbrev S1 : Shape := ⟨1, ![1]⟩
abbrev S4000x81 : Shape := ⟨2, ![4000, 81]⟩
abbrev S4000 : Shape := ⟨1, ![4000]⟩
abbrev S4000x1 : Shape := ⟨2, ![4000, 1]⟩
abbrev S1x1x1 : Shape := ⟨3, ![1, 1, 1]⟩
abbrev S1x128 : Shape := ⟨2, ![1, 128]⟩
abbrev S32x1x1 : Shape := ⟨3, ![32, 1, 1]⟩
abbrev S32 : Shape := ⟨1, ![32]⟩

abbrev nBuf : Space → Nat
  | .hbm => 23
  | .vmem => 8
  | .smem => 1
  | _ => 0

abbrev bufTy : (tb : Table) → Fin (tcTables nBuf tb) → BufTy
  | .hbm, ⟨0, _⟩ => ⟨S32x20000x81, .f32⟩
  | .hbm, ⟨1, _⟩ => ⟨S32x20000, .i32⟩
  | .hbm, ⟨2, _⟩ => ⟨S32x20000, .i32⟩
  | .hbm, ⟨3, _⟩ => ⟨S_, .f32⟩
  | .hbm, ⟨4, _⟩ => ⟨S_, .i32⟩
  | .hbm, ⟨5, _⟩ => ⟨S32x20000, .i32⟩
  | .hbm, ⟨6, _⟩ => ⟨S32x20000, .i1⟩
  | .hbm, ⟨7, _⟩ => ⟨S_, .i32⟩
  | .hbm, ⟨8, _⟩ => ⟨S_, .i32⟩
  | .hbm, ⟨9, _⟩ => ⟨S32x20000, .i32⟩
  | .hbm, ⟨10, _⟩ => ⟨S32x20000, .i32⟩
  | .hbm, ⟨11, _⟩ => ⟨S32x20000x1, .i32⟩
  | .hbm, ⟨12, _⟩ => ⟨S_, .i32⟩
  | .hbm, ⟨13, _⟩ => ⟨S32x20000, .i32⟩
  | .hbm, ⟨14, _⟩ => ⟨S32x20000, .i1⟩
  | .hbm, ⟨15, _⟩ => ⟨S32x20000, .f32⟩
  | .hbm, ⟨16, _⟩ => ⟨S32x20000x1, .f32⟩
  | .hbm, ⟨17, _⟩ => ⟨S32x1x128, .f32⟩
  | .hbm, ⟨18, _⟩ => ⟨S32x1x1, .f32⟩
  | .hbm, ⟨19, _⟩ => ⟨S32, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x4000x81, .f32⟩
  | .local _ .vmem, ⟨1, _⟩ => ⟨S1x4000x81, .f32⟩
  | .local _ .vmem, ⟨2, _⟩ => ⟨S1x4000x1, .i32⟩
  | .local _ .vmem, ⟨3, _⟩ => ⟨S1x4000x1, .i32⟩
  | .local _ .vmem, ⟨4, _⟩ => ⟨S1x4000x1, .f32⟩
  | .local _ .vmem, ⟨5, _⟩ => ⟨S1x4000x1, .f32⟩
  | .local _ .vmem, ⟨6, _⟩ => ⟨S1x1x128, .f32⟩
  | .local _ .vmem, ⟨7, _⟩ => ⟨S1x1x128, .f32⟩
  | .local _ .smem, ⟨0, _⟩ => ⟨S1, .f32⟩
  | _, _ => ⟨S32x20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 5], ![false, false]⟩

def k0_cond2 (i : grid0.Coords) : BitVec 1 :=
  let arg1 : BitVec 32 := BitVec.ofNat 32 (i 1).val
  let c4_i32 : BitVec 32 := 4#32
  let v31 : BitVec 1 := Scalar.cmpi .eq arg1 c4_i32
  let v32 : BitVec 32 := Scalar.extui v31
  let c0_i32_14 : BitVec 32 := 0#32
  let v33 : BitVec 1 := Scalar.cmpi .ne v32 c0_i32_14
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference2Ideal.lean ====
abbrev S32x20000x81 : Shape := ⟨3, ![32, 20000, 81]⟩
abbrev S32x20000 : Shape := ⟨2, ![32, 20000]⟩
abbrev S_ : Shape := ⟨0, ![]⟩
abbrev S32x20000x1 : Shape := ⟨3, ![32, 20000, 1]⟩
abbrev S32x20000x1x1 : Shape := ⟨4, ![32, 20000, 1, 1]⟩
abbrev S1 : Shape := ⟨1, ![1]⟩
abbrev S1x1x1x1 : Shape := ⟨4, ![1, 1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S32x20000x81, .f32⟩
  | .hbm, ⟨1, _⟩ => ⟨S32x20000, .i32⟩
  | .hbm, ⟨2, _⟩ => ⟨S32x20000, .i32⟩
  | .hbm, ⟨3, _⟩ => ⟨S_, .f32⟩
  | .hbm, ⟨4, _⟩ => ⟨S_, .i32⟩
  | .hbm, ⟨5, _⟩ => ⟨S32x20000, .i32⟩
  | .hbm, ⟨6, _⟩ => ⟨S32x20000, .i1⟩
  | .hbm, ⟨7, _⟩ => ⟨S_, .f32⟩
  | .hbm, ⟨8, _⟩ => ⟨S32x20000, .f32⟩
  | .hbm, ⟨9, _⟩ => ⟨S_, .f32⟩
  | .hbm, ⟨10, _⟩ => ⟨S32x20000, .f32⟩
  | .hbm, ⟨11, _⟩ => ⟨S32x20000, .f32⟩
  | .hbm, ⟨12, _⟩ => ⟨S32x20000x1, .f32⟩
  | .hbm, ⟨13, _⟩ => ⟨S32x20000x81, .f32⟩
  | .hbm, ⟨14, _⟩ => ⟨S32x20000x81, .f32⟩
  | .hbm, ⟨15, _⟩ => ⟨S32x20000x81, .f32⟩
  | .hbm, ⟨16, _⟩ => ⟨S_, .f32⟩
  | .hbm, ⟨17, _⟩ => ⟨S32x20000, .f32⟩
  | .hbm, ⟨18, _⟩ => ⟨S32x20000x1, .f32⟩
  | .hbm, ⟨19, _⟩ => ⟨S32x20000x1, .f32⟩
  | .hbm, ⟨20, _⟩ => ⟨S32x20000x81, .f32⟩
  | .hbm, ⟨21, _⟩ => ⟨S32x20000x81, .f32⟩
  | .hbm, ⟨22, _⟩ => ⟨S32x20000x1, .i32⟩
  | .hbm, ⟨23, _⟩ => ⟨S_, .i32⟩
  | .hbm, ⟨24, _⟩ => ⟨S32x20000x1, .i32⟩
  | .hbm, ⟨25, _⟩ => ⟨S32x20000x1, .i1⟩
  | .hbm, ⟨26, _⟩ => ⟨S_, .i32⟩
  | .hbm, ⟨27, _⟩ => ⟨S32x20000x1, .i32⟩
  | .hbm, ⟨28, _⟩ => ⟨S32x20000x1, .i32⟩
  | .hbm, ⟨29, _⟩ => ⟨S32x20000x1, .i32⟩
  | .hbm, ⟨30, _⟩ => ⟨S32x20000x1x1, .i32⟩
  | .hbm, ⟨31, _⟩ => ⟨S1, .i32⟩
  | .hbm, ⟨32, _⟩ => ⟨S_, .i32⟩
  | .hbm, ⟨33, _⟩ => ⟨S32x20000x1x1, .i32⟩
  | .hbm, ⟨34, _⟩ => ⟨S32x20000x1x1, .i1⟩
  | .hbm, ⟨35, _⟩ => ⟨S1x1x1x1, .i32⟩
  | .hbm, ⟨36, _⟩ => ⟨S32x20000x1x1, .i32⟩
  | .hbm, ⟨37, _⟩ => ⟨S32x20000x1x1, .i1⟩
  | .hbm, ⟨38, _⟩ => ⟨S32x20000x1x1, .i1⟩
  | .hbm, ⟨39, _⟩ => ⟨S_, .i1⟩
  | .hbm, ⟨40, _⟩ => ⟨S32x20000x1, .i1⟩
  | .hbm, ⟨41, _⟩ => ⟨S32x20000x1, .f32⟩
  | .hbm, ⟨42, _⟩ => ⟨S_, .f32⟩
  | .hbm, ⟨43, _⟩ => ⟨S32x20000x1, .f32⟩
  | .hbm, ⟨44, _⟩ => ⟨S32x20000x1, .f32⟩
  | .hbm, ⟨45, _⟩ => ⟨S32x20000, .f32⟩
  | .hbm, ⟨46, _⟩ => ⟨S32x20000, .f32⟩
  | .hbm, ⟨47, _⟩ => ⟨S_, .f32⟩
  | .hbm, ⟨48, _⟩ => ⟨S_, .f32⟩
  | .hbm, ⟨49, _⟩ => ⟨S32x20000, .f32⟩
  | .hbm, ⟨50, _⟩ => ⟨S32x20000, .f32⟩
  | .hbm, ⟨51, _⟩ => ⟨S_, .f32⟩
  | .hbm, ⟨52, _⟩ => ⟨S_, .f32⟩
  | .hbm, ⟨53, _⟩ => ⟨S_, .f32⟩
  | _, _ => ⟨S32x20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v2 : Ref sig .tc := ⟨.hbm, 21, rfl⟩
abbrev main_v3 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_cst : Ref sig .tc := ⟨.hbm, 47, rfl⟩
abbrev main_call2_v0 : Ref sig .tc := ⟨.hbm, 48, rfl⟩
abbrev main_call2_v1 : Ref sig .tc := ⟨.hbm, 49, rfl⟩
abbrev main_v7 : Ref sig .tc := ⟨.hbm, 50, rfl⟩
abbrev main_cst_0 : Ref sig .tc := ⟨.hbm, 51, rfl⟩
abbrev main_v8 : Ref sig .tc := ⟨.hbm, 52, rfl⟩
abbrev main_v9 : Ref sig .tc := ⟨.hbm, 53, rfl⟩

abbrev nD : Nat := 1
abbrev τ : Topo := Topo.v7x

variable {F : FTy → Type} [FloatOps F]
-- ==== Proof.RowBody.lean ====
/-
  The row kernel's arithmetic as functions of the loaded blocks. Between its loads and its store the body only computes:
  the two branches of its conditional and the four counted loops of the slow branch issue nothing, so the conditional is
  the return of ONE value (`negSum`), and the body's third part is three loads and a return.
-/
module

public import proofs.«01_k».proof.Proof.Gen.Kernel.Frame
public import proofs.«01_k».proof.Proof.Gen.Kernel.Skeleton
public import Idealize.ShloMosaic.Lib.Tactic

@[expose] public section

set_option maxRecDepth 16384

noncomputable section

namespace Cert.Proof.Row

open Cert.Kernel Cert.Kernel.Gen
open Idealize.ShloMosaic Idealize.SL.Sem

variable {F : FTy → Type} [BitOps F]

/-- How many of the lanes of a mask are set, as the body counts them. -/
def count (p : IVec S8x5000 1) : BitVec 32 :=
  extractAt ![0, 0, 0] (shapeCast S1x1x1 (multiReductionI .add [1, 2] S1
    (shapeCast S1x8x5000 (extui 32 p natLt_1_32) shapeCasts_S8x5000_S1x8x5000) 0#32 reduces_S1x8x5000_S1 rfl) shapeCasts_S1_S1x1x1) inpos_S1x1x1_p0_0_0

/-- One trip of the search for the largest value that at least `kk` candidates reach: the next lower bit is kept if they still do. -/
def valueTrip (key : IVec S8x5000 32) (cand : IVec S8x5000 1) (kk : BitVec 32) (k : ℕ) (acc : BitVec 32) : BitVec 32 :=
  Scalar.select (Scalar.cmpi .sge (count (andi (cmpi .sge key (broadcast S8x5000
    (Scalar.ori acc (Scalar.shli 1#32 (Scalar.subi 30#32 (Scf.iv 0#32 1#32 k)))))) cand)) kk)
    (Scalar.ori acc (Scalar.shli 1#32 (Scalar.subi 30#32 (Scf.iv 0#32 1#32 k)))) acc

/-- One trip of the search for the largest position that fewer than `r` of the tied lanes lie below. -/
def indexTrip (tie : IVec S8x5000 1) (idx : IVec S8x5000 32) (r : BitVec 32) (k : ℕ) (acc : BitVec 32) : BitVec 32 :=
  Scalar.select (Scalar.cmpi .slt (count (andi tie (cmpi .slt idx (broadcast S8x5000
    (Scalar.ori acc (Scalar.shli 1#32 (Scalar.subi 14#32 (Scf.iv 0#32 1#32 k)))))))) r)
    (Scalar.ori acc (Scalar.shli 1#32 (Scalar.subi 14#32 (Scf.iv 0#32 1#32 k)))) acc

/-- How many candidates are wanted: the quota, or all of them when there are fewer. -/
def wanted (cand : IVec S8x5000 1) (quota : BitVec 32) : BitVec 32 := Scalar.minsi quota (count cand)

/-- The value threshold: 31 bits from the top. -/
def thrV (key : IVec S8x5000 32) (cand : IVec S8x5000 1) (quota : BitVec 32) : BitVec 32 :=
  Scf.fold (n := k0_t1_loop.trips) (fun k acc => valueTrip key cand (wanted cand quota) k acc) 0#32

/-- How many of the tied lanes are still wanted. -/
def left (key : IVec S8x5000 32) (cand : IVec S8x5000 1) (quota v : BitVec 32) : BitVec 32 :=
  Scalar.subi (wanted cand quota) (count (andi (cmpi .sgt key (broadcast S8x5000 v)) cand))

/-- The position threshold: 15 bits from the top. -/
def thrJ (key : IVec S8x5000 32) (cand : IVec S8x5000 1) (idx : IVec S8x5000 32) (quota v : BitVec 32) : BitVec 32 :=
  Scf.fold (n := k0_t2_loop.trips) (fun k acc => indexTrip (andi (cmpi .eq key (broadcast S8x5000 v)) cand) idx (left key cand quota v) k acc) 0#32

/-- The lanes selected at the thresholds `v` and `j`. -/
def chosenAt (key : IVec S8x5000 32) (cand : IVec S8x5000 1) (idx : IVec S8x5000 32) (quota v j : BitVec 32) : IVec S8x5000 1 :=
  andi (ori (andi (cmpi .sgt key (broadcast S8x5000 v)) cand)
    (andi (andi (andi (cmpi .eq key (broadcast S8x5000 v)) cand) (cmpi .sle idx (broadcast S8x5000 j)))
      (broadcast S8x5000 (Scalar.cmpi .sgt (left key cand quota v) 0#32))))
    (broadcast S8x5000 (Scalar.cmpi .sgt (wanted cand quota) 0#32))

/-- The lanes the slow branch selects in one region. -/
def chosen (key : IVec S8x5000 32) (cand : IVec S8x5000 1) (idx : IVec S8x5000 32) (quota : BitVec 32) : IVec S8x5000 1 :=
  chosenAt key cand idx quota (thrV key cand quota) (thrJ key cand idx quota (thrV key cand quota))

/-- The sum of a block's selected lanes, the others counted as zero. -/
def maskedSum (sel : IVec S8x5000 1) (x : FVec F S8x5000 .f32) : F .f32 :=
  extractAt ![0, 0, 0] (shapeCast S1x1x1 (multiReduction .add [1, 2] S1
    (shapeCast S1x8x5000 (select sel x (broadcast S8x5000 (Scalar.ofBits .f32 0x00000000#32))) shapeCasts_S8x5000_S1x8x5000)
    0x00000000#32 reduces_S1x8x5000_S1 (.inl rfl) rfl) shapeCasts_S1_S1x1x1) inpos_S1x1x1_p0_0_0

/-- The conditional's test: neither region has more candidates than its quota. -/
def fewEnough (npos : BitVec 32) (cm cl : IVec S8x5000 1) : BitVec 1 :=
  Scalar.cmpi .ne ((Scalar.extui (Scalar.andi (Scalar.cmpi .sle (count cm) (Scalar.muli npos 3#32)) (Scalar.cmpi .sle (count cl) (Scalar.muli npos 3#32)))) : BitVec 32) 0#32

/-- What the conditional yields. -/
def negSum (x : FVec F S8x5000 .f32) (npos : BitVec 32) (cm cl : IVec S8x5000 1) : F .f32 :=
  if fewEnough npos cm cl = 1#1 then maskedSum (ori cm cl) x
  else maskedSum (ori (chosen (bitcastToInt x) cm k0_pay3 (Scalar.muli npos 3#32)) (chosen (bitcastToInt x) cl k0_pay3 (Scalar.muli npos 3#32))) x

/-- The slow branch's first part returns the middle region's selection. -/
theorem part1_eq (i : grid0.Coords) (arg1 : Memref sig .tc .vmem S1x8x5000 .f32) (harg1 : arg1.IsWhole) (arg2 : Memref sig .tc .vmem S1x8x5000 .i32) (harg2 : arg2.IsWhole) (arg3 : Memref sig .tc .vmem S1x8x5000 .i32) (harg3 : arg3.IsWhole) (arg4 : Memref sig .tc .vmem S1x8x5000 .i32) (harg4 : arg4.IsWhole)
    (arg5 : Memref sig .tc .vmem S1x8x10000 .f32) (harg5 : arg5.IsWhole) (arg6 : Memref sig .tc .vmem S1x8x10000 .f32) (harg6 : arg6.IsWhole) (arg7 : Memref sig .tc .vmem S1x8x10000 .f32) (harg7 : arg7.IsWhole) (arg8 : Memref sig .tc .vmem S1x1x128 .f32) (harg8 : arg8.IsWhole)
    (x : FVec F S8x5000 .f32) (cm cl : IVec S8x5000 1) (q : BitVec 32) :
    k0_part1 (F := F) i arg1 harg1 arg2 harg2 arg3 harg3 arg4 harg4 arg5 harg5 arg6 harg6 arg7 harg7 arg8 harg8 x cm cl q
      = .ret ⟨bitcastToInt x, k0_pay3, chosen (bitcastToInt x) cm k0_pay3 q, k0_pay11 cl⟩ := by
  rw [k0_part1_eq_skeleton]; unfold k0_part1_skel
  refine (Scf.for_pure_bind _ _ _ _ _ _ (fun k acc => valueTrip (bitcastToInt x) cm (wanted cm q) k acc) (fun k acc => rfl) _).trans ?_
  refine (Scf.for_pure_bind _ _ _ _ _ _ (fun k acc => indexTrip (andi (cmpi .eq (bitcastToInt x) (broadcast S8x5000 (thrV (bitcastToInt x) cm q))) cm) k0_pay3
    (left (bitcastToInt x) cm q (thrV (bitcastToInt x) cm q)) k acc) (fun k acc => rfl) _).trans ?_
  rfl

/-- The conditional's test as the body computes it. -/
theorem fewEnough_eq (pos : IVec S8x5000 1) (npos : BitVec 32) (cm : IVec S8x5000 1) (low : IVec S8x5000 32) :
    fewEnough npos cm (k0_pay20 pos low k0_pay19)
      = Scalar.cmpi .ne (Scalar.extui (Scalar.andi (Scalar.cmpi .sle (extractAt ![0, 0, 0] (k0_pay21 cm) inpos_S1x1x1_p0_0_0) (Scalar.muli npos 3#32))
          (Scalar.cmpi .sle (extractAt ![0, 0, 0] (k0_pay22 pos low k0_pay19) inpos_S1x1x1_p0_0_0) (Scalar.muli npos 3#32)))) 0#32 := rfl

/-- The body's third part is three loads around the conditional's value. -/
theorem part3_eq (i : grid0.Coords) (arg1 : Memref sig .tc .vmem S1x8x5000 .f32) (harg1 : arg1.IsWhole) (arg2 : Memref sig .tc .vmem S1x8x5000 .i32) (harg2 : arg2.IsWhole) (arg3 : Memref sig .tc .vmem S1x8x5000 .i32) (harg3 : arg3.IsWhole) (arg4 : Memref sig .tc .vmem S1x8x5000 .i32) (harg4 : arg4.IsWhole)
    (arg5 : Memref sig .tc .vmem S1x8x10000 .f32) (harg5 : arg5.IsWhole) (arg6 : Memref sig .tc .vmem S1x8x10000 .f32) (harg6 : arg6.IsWhole) (arg7 : Memref sig .tc .vmem S1x8x10000 .f32) (harg7 : arg7.IsWhole) (arg8 : Memref sig .tc .vmem S1x1x128 .f32) (harg8 : arg8.IsWhole)
    (x : FVec F S8x5000 .f32) (pos : IVec S8x5000 1) (npos : BitVec 32) (cm : IVec S8x5000 1) (low : IVec S8x5000 32) :
    k0_part3 (F := F) i arg1 harg1 arg2 harg2 arg3 harg3 arg4 harg4 arg5 harg5 arg6 harg6 arg7 harg7 arg8 harg8 x pos npos cm low k0_pay19 = (do
      let v58 : Vec F S1x8x10000 .f32 ← Prog.lift (.load arg5 (Rect.unit (s := S1x8x10000) ![0, 0, 0] S1x8x10000.size inb_S1x8x10000_S1x8x10000_0_0_0).toLoadRect (View.loadsAt_vmem h_S1x8x10000))
      let v60 : Vec F S1x8x10000 .f32 ← Prog.lift (.load arg6 (Rect.unit (s := S1x8x10000) ![0, 0, 0] S1x8x10000.size inb_S1x8x10000_S1x8x10000_0_0_0).toLoadRect (View.loadsAt_vmem h_S1x8x10000))
      let v72 : Vec F S1x8x10000 .f32 ← Prog.lift (.load arg7 (Rect.unit (s := S1x8x10000) ![0, 0, 0] S1x8x10000.size inb_S1x8x10000_S1x8x10000_0_0_0).toLoadRect (View.loadsAt_vmem h_S1x8x10000))
      pure ⟨negSum x npos cm (k0_pay20 pos low k0_pay19), k0_pay31 v58 v60 v72⟩) := by
  rw [k0_part3_eq_skeleton]; unfold k0_part3_skel
  unfold negSum
  by_cases h : fewEnough npos cm (k0_pay20 pos low k0_pay19) = 1#1
  · rw [if_pos h]
    rw [fewEnough_eq] at h
    dsimp only
    rw [if_pos h]
    rfl
  · rw [if_neg h]
    rw [fewEnough_eq] at h
    dsimp only
    rw [if_neg h]
    rw [part1_eq, Prog.bind_ret]
    dsimp only
    refine ((Scf.for_pure_bind _ _ _ _ _ _ (fun k acc => valueTrip (bitcastToInt x) (k0_pay20 pos low k0_pay19) (wanted (k0_pay20 pos low k0_pay19) (Scalar.muli npos 3#32)) k acc) (fun k acc => rfl) _)).trans ?_
    refine ((Scf.for_pure_bind _ _ _ _ _ _ (fun k acc => indexTrip (andi (cmpi .eq (bitcastToInt x) (broadcast S8x5000 (thrV (bitcastToInt x) (k0_pay20 pos low k0_pay19) (Scalar.muli npos 3#32)))) (k0_pay20 pos low k0_pay19)) k0_pay3
      (left (bitcastToInt x) (k0_pay20 pos low k0_pay19) (Scalar.muli npos 3#32) (thrV (bitcastToInt x) (k0_pay20 pos low k0_pay19) (Scalar.muli npos 3#32))) k acc) (fun k acc => rfl) _)).trans ?_
    rfl

end Cert.Proof.Row

end
-- ==== Proof.RowStep.lean ====
/-
  One run of the row kernel's body. On whole buffers it leaves its output block at `rowOut` of its input blocks: seven loads,
  the arithmetic of `RowBody`, one store.
-/
module

public import proofs.«01_k».proof.Proof.RowBody
public import proofs.«01_k».proof.Proof.Gen.Kernel.Launch
public import proofs.«01_k».proof.Proof.Gen.Kernel.Points
public import Idealize.ShloMosaic.Lib.Pipeline.FrameBody
public import Idealize.ShloMosaic.Lib.Claim
public import Idealize.ShloMosaic.Lib.Ring

@[expose] public section

set_option maxRecDepth 16384

noncomputable section

namespace Cert.Proof.Row

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- A whole block of 8 by 5000, of 8 by 10000, and of one row of 128. -/
abbrev rA : Rect S1x8x5000 := Rect.unit (s := S1x8x5000) ![0, 0, 0] S1x8x5000.size inb_S1x8x5000_S1x8x5000_0_0_0
abbrev rB : Rect S1x8x10000 := Rect.unit (s := S1x8x10000) ![0, 0, 0] S1x8x10000.size inb_S1x8x10000_S1x8x10000_0_0_0
abbrev rC : Rect S1x1x128 := Rect.unit (s := S1x1x128) ![0, 0, 0] S1x1x128.size inb_S1x1x128_S1x1x128_0_0_0

/-- The row the body stores, as a function of the seven blocks it loads. -/
def rowPay (x0 : Vec F S1x8x5000 .f32) (x1 x2 x3 : Vec F S1x8x5000 .i32) (x4 x5 x6 : Vec F S1x8x10000 .f32) : FVec F S1x1x128 .f32 :=
  k0_pay1 (extractAt ![0, 0, 0] (k0_pay15 x1) inpos_S1x1x1_p0_0_0) (k0_pay16 x0 x1)
    (negSum (k0_pay13 x0) (extractAt ![0, 0, 0] (k0_pay15 x1) inpos_S1x1x1_p0_0_0) (k0_pay17 x1 x2) (k0_pay20 (k0_pay14 x1) (k0_pay18 x3) k0_pay19))
    (k0_pay31 x4 x5 x6)

/-- The output block after the body. -/
def rowOut (x0 : Vec F S1x8x5000 .f32) (x1 x2 x3 : Vec F S1x8x5000 .i32) (x4 x5 x6 : Vec F S1x8x10000 .f32) : Vec F S1x1x128 .f32 :=
  View.canon [⟨rC, rowPay (View.ld x0 rA) (View.ld x1 rA) (View.ld x2 rA) (View.ld x3 rA) (View.ld x4 rB) (View.ld x5 rB) (View.ld x6 rB)⟩]

/-- The one store covers the block. -/
theorem rowOut_cover (p0 : Vec F S1x1x128 .f32) (y : S1x1x128.Idx) :
    ∃ pc ∈ ([⟨rC, p0⟩] : List (View.Piece (Elt F) S1x1x128 .f32)), y ∈ pc.1.set :=
  View.cover_of_tiled [⟨rC, p0⟩] S1x1x128.size (by rfl) y

set_option maxHeartbeats 1000000 in
/-- From the inputs' buffers at `x0 … x6` and the output's at anything, the body runs to the inputs as they were and the
    output at `rowOut` of them. -/
theorem kernel_run (c : Dev nD) (E : Set ℕ) (i : grid0.Coords) (arg1 : Memref sig .tc .vmem S1x8x5000 .f32) (harg1 : arg1.IsWhole) (arg2 : Memref sig .tc .vmem S1x8x5000 .i32) (harg2 : arg2.IsWhole) (arg3 : Memref sig .tc .vmem S1x8x5000 .i32) (harg3 : arg3.IsWhole) (arg4 : Memref sig .tc .vmem S1x8x5000 .i32) (harg4 : arg4.IsWhole)
    (arg5 : Memref sig .tc .vmem S1x8x10000 .f32) (harg5 : arg5.IsWhole) (arg6 : Memref sig .tc .vmem S1x8x10000 .f32) (harg6 : arg6.IsWhole) (arg7 : Memref sig .tc .vmem S1x8x10000 .f32) (harg7 : arg7.IsWhole) (arg8 : Memref sig .tc .vmem S1x1x128 .f32) (harg8 : arg8.IsWhole)
    (x0 : Vec F S1x8x5000 .f32) (x1 x2 x3 : Vec F S1x8x5000 .i32) (x4 x5 x6 : Vec F S1x8x10000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (rowOut x0 x1 x2 x3 x4 x5 x6)) -∗ K ⟨⟩))
      ⊢ wp frame (wpE (defs₀ (F := F)) Variants.none c none) E (cc0__row_body i arg1 harg1 arg2 harg2 arg3 harg3 arg4 harg4 arg5 harg5 arg6 harg6 arg7 harg7 arg8 harg8) K := by
  simp only [cc0__row_body_eq_skeleton]; unfold cc0__row_body_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  simp only [Prog.bind_assoc, pure_bind, part3_eq]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (rowOut_cover _)

end Cert.Proof.Row

end
-- ==== Proof.Select.lean ====
/-
  Selection by two thresholds is selection by rank. Among candidates with a key and a position, the ones above the largest
  value that `kk` candidates reach, together with the first of those at that value, are the ones fewer than `K` candidates
  come before. A threshold is found bit by bit from the top.
-/
module

public import Mathlib.Data.Finset.Card
public import Mathlib.Data.Fintype.Basic
public import Mathlib.Data.Fintype.Card
public import Mathlib.Tactic.Push
public import Mathlib.Data.List.FinRange
public import Mathlib.Algebra.Order.Ring.Int

@[expose] public section

namespace Cert.Proof.Select

variable {ι : Type} [Fintype ι] [DecidableEq ι]

open Finset

/-- How many candidates come before `i`: a larger key, or the same key at an earlier position. -/
def rank (cand : ι → Prop) [DecidablePred cand] (key : ι → ℤ) (idx : ι → ℤ) (i : ι) : ℕ :=
  #{l | cand l ∧ (key i < key l ∨ key l = key i ∧ idx l < idx i)}

section
variable (cand : ι → Prop) [DecidablePred cand] (key : ι → ℤ) (idx : ι → ℤ)

theorem rank_lt_card {i : ι} (hi : cand i) : rank cand key idx i < #{l | cand l} := by
  apply Finset.card_lt_card
  constructor
  · intro l; simp only [mem_filter, mem_univ, true_and]; exact fun h => h.1
  · intro h
    have := h (show i ∈ _ by simpa using hi)
    simp only [mem_filter, mem_univ, true_and] at this
    rcases this.2 with h | h <;> omega

/-- Selection at the thresholds `V` and `J` is selection by rank. -/
theorem selected_iff {K B : ℕ} {V J : ℤ} {i : ι} (hi : cand i) (hkey : key i < B) (hidx : idx i < 32768) (hidx0 : 0 ≤ idx i)
    (kk : ℕ) (hkk : kk = min K #{l | cand l})
    (hV0 : 0 ≤ V) (hVB : V < B)
    (hV : V = 0 ∨ kk ≤ #{l | cand l ∧ V ≤ key l})
    (hVmax : ∀ v : ℤ, 0 ≤ v → v < B → kk ≤ #{l | cand l ∧ v ≤ key l} → v ≤ V)
    (r : ℤ) (hr : r = kk - #{l | cand l ∧ V < key l})
    (hJ0 : 0 ≤ J)
    (hJ : J = 0 ∨ (#{l | (key l = V ∧ cand l) ∧ idx l < J} : ℤ) < r)
    (hJmax : ∀ j : ℤ, 0 ≤ j → j < 32768 → (#{l | (key l = V ∧ cand l) ∧ idx l < j} : ℤ) < r → j ≤ J)
    (hnn : ∀ l, cand l → 0 ≤ idx l) :
    ((V < key i ∨ ((key i = V ∧ idx i ≤ J) ∧ 0 < r)) ∧ 0 < kk) ↔ (rank cand key idx i < K ∧ 0 ≤ key i) := by
  have hlt := rank_lt_card cand key idx hi
  have hK : rank cand key idx i < K ↔ rank cand key idx i < kk := by rw [hkk]; omega
  rw [hK]
  rcases lt_trichotomy (key i) V with h | h | h
  · -- below the threshold
    have h1 : ¬ V = 0 → kk ≤ rank cand key idx i := fun h0 => by
      refine (hV.resolve_left h0).trans (Finset.card_le_card ?_)
      intro l; simp only [mem_filter, mem_univ, true_and]
      exact fun hl => ⟨hl.1, .inl (by omega)⟩
    constructor
    · rintro ⟨h2 | ⟨⟨h2, _⟩, _⟩, _⟩ <;> omega
    · rintro ⟨h2, h3⟩
      have := h1 (by omega)
      omega
  · -- at the threshold
    have hrank : rank cand key idx i = #{l | cand l ∧ V < key l} + #{l | (key l = V ∧ cand l) ∧ idx l < idx i} := by
      unfold rank
      rw [← Finset.card_union_of_disjoint]
      · congr 1; ext l; simp only [mem_filter, mem_univ, true_and, mem_union, h]; tauto
      · rw [Finset.disjoint_filter]; intro l _ h1 h2; omega
    have hJi : (idx i ≤ J ∧ 0 < r) ↔ (#{l | (key l = V ∧ cand l) ∧ idx l < idx i} : ℤ) < r := by
      constructor
      · rintro ⟨h1, h2⟩
        rcases hJ with h0 | h0
        · have : #{l | (key l = V ∧ cand l) ∧ idx l < idx i} = 0 := by
            rw [Finset.card_eq_zero, Finset.filter_eq_empty_iff]
            intro l _ hl
            have := hnn l hl.1.2
            omega
          rw [this]; simpa using h2
        · refine lt_of_le_of_lt ?_ h0
          exact_mod_cast Finset.card_le_card (by
            intro l; simp only [mem_filter, mem_univ, true_and]; exact fun hl => ⟨hl.1, by omega⟩)
      · intro h1
        exact ⟨hJmax _ hidx0 hidx h1, by omega⟩
    have e : (#{l | (key l = V ∧ cand l) ∧ idx l < idx i} : ℤ) < r ↔ rank cand key idx i < kk := by rw [hrank, hr]; omega
    constructor
    · rintro ⟨h1, h2⟩
      rcases h1 with h1 | ⟨⟨_, h1⟩, h3⟩
      · omega
      · exact ⟨e.1 (hJi.1 ⟨h1, h3⟩), by omega⟩
    · rintro ⟨h1, _⟩
      have := hJi.2 (e.2 h1)
      exact ⟨.inr ⟨⟨h, this.1⟩, this.2⟩, by omega⟩
  · -- above it
    have h1 : rank cand key idx i < kk := by
      by_contra hc
      have h2 : kk ≤ #{l | cand l ∧ V + 1 ≤ key l} := by
        refine (not_lt.1 hc).trans (Finset.card_le_card ?_)
        intro l; simp only [mem_filter, mem_univ, true_and]
        rintro ⟨hl, h3 | h3⟩ <;> exact ⟨hl, by omega⟩
      have := hVmax (V + 1) (by omega) (by omega) h2
      omega
    exact ⟨fun _ => ⟨h1, by omega⟩, fun _ => ⟨.inl h, by omega⟩⟩

end

/-- One step of a search from the top bit: the next lower bit is kept if the test still holds. -/
def bitStep (P : ℕ → Prop) [DecidablePred P] (n k acc : ℕ) : ℕ :=
  if P (acc + 2 ^ (n - 1 - k)) then acc + 2 ^ (n - 1 - k) else acc

/-- What holds after `k` steps of a search of `n` bits: a multiple of the next step's width, where the test holds unless it
    is zero, and no passing number lies a whole width further. -/
theorem bitSearch_inv (P : ℕ → Prop) [DecidablePred P] (hP : ∀ a b, a ≤ b → P b → P a) (n k acc : ℕ) (hk : k < n)
    (h : acc % 2 ^ (n - k) = 0 ∧ acc + 2 ^ (n - k) ≤ 2 ^ n ∧ (acc = 0 ∨ P acc) ∧ ∀ v, v < 2 ^ n → P v → v < acc + 2 ^ (n - k)) :
    (bitStep P n k acc) % 2 ^ (n - (k + 1)) = 0 ∧ bitStep P n k acc + 2 ^ (n - (k + 1)) ≤ 2 ^ n
      ∧ (bitStep P n k acc = 0 ∨ P (bitStep P n k acc)) ∧ ∀ v, v < 2 ^ n → P v → v < bitStep P n k acc + 2 ^ (n - (k + 1)) := by
  obtain ⟨h1, h2, h3, h4⟩ := h
  have e : n - 1 - k = n - (k + 1) := by omega
  have e2 : 2 ^ (n - k) = 2 ^ (n - (k + 1)) + 2 ^ (n - (k + 1)) := by rw [← two_mul, ← pow_succ']; congr 1; omega
  have h1' : acc % 2 ^ (n - (k + 1)) = 0 :=
      Nat.mod_eq_zero_of_dvd ((pow_dvd_pow 2 (by omega)).trans (Nat.dvd_of_mod_eq_zero h1))
  unfold bitStep
  rw [e]
  split
  · next hp =>
    refine ⟨by rw [Nat.add_mod_right]; exact h1', by omega, .inr hp, fun v hv hpv => ?_⟩
    have := h4 v hv hpv; omega
  · next hp =>
    refine ⟨h1', by omega, h3, fun v hv hpv => ?_⟩
    by_contra hc
    exact hp (hP _ v (by omega) hpv)

/-- The result of a search of `n` bits. -/
theorem bitSearch_spec (P : ℕ → Prop) [DecidablePred P] (hP : ∀ a b, a ≤ b → P b → P a) (n : ℕ) (f : ℕ → ℕ) (h0 : f 0 = 0)
    (hf : ∀ k, k < n → f (k + 1) = bitStep P n k (f k)) :
    f n < 2 ^ n ∧ (f n = 0 ∨ P (f n)) ∧ ∀ v, v < 2 ^ n → P v → v ≤ f n := by
  have H : ∀ k, k ≤ n → f k % 2 ^ (n - k) = 0 ∧ f k + 2 ^ (n - k) ≤ 2 ^ n ∧ (f k = 0 ∨ P (f k)) ∧ ∀ v, v < 2 ^ n → P v → v < f k + 2 ^ (n - k) := by
    intro k
    induction k with
    | zero => intro _; rw [h0]; simp only [Nat.zero_mod, Nat.sub_zero, Nat.zero_add, le_refl, true_or, true_and]; exact fun v hv _ => hv
    | succ k ih => intro hk; rw [hf k (by omega)]; exact bitSearch_inv P hP n k _ (by omega) (ih (by omega))
  obtain ⟨_, h2, h3, h4⟩ := H n le_rfl
  simp only [Nat.sub_self, pow_zero] at h2 h4
  exact ⟨by omega, h3, fun v hv hp => by have := h4 v hv hp; omega⟩

/-- What a search's accumulator satisfies before trip `k`: a multiple of twice the next step. -/
theorem bitSearch_mod (P : ℕ → Prop) [DecidablePred P] (hP : ∀ a b, a ≤ b → P b → P a) (n : ℕ) (f : ℕ → ℕ) (h0 : f 0 = 0)
    (hf : ∀ k, k < n → f (k + 1) = bitStep P n k (f k)) (k : ℕ) (hk : k ≤ n) : f k % 2 ^ (n - k) = 0 ∧ f k + 2 ^ (n - k) ≤ 2 ^ n := by
  induction k with
  | zero => rw [h0]; simp
  | succ k ih =>
    rw [hf k (by omega)]
    obtain ⟨h1, h2⟩ := ih (by omega)
    have e : n - 1 - k = n - (k + 1) := by omega
    have e2 : 2 ^ (n - k) = 2 ^ (n - (k + 1)) + 2 ^ (n - (k + 1)) := by rw [← two_mul, ← pow_succ']; congr 1; omega
    have h1' : f k % 2 ^ (n - (k + 1)) = 0 :=
      Nat.mod_eq_zero_of_dvd ((pow_dvd_pow 2 (by omega)).trans (Nat.dvd_of_mod_eq_zero h1))
    unfold bitStep
    rw [e]
    split
    · exact ⟨by rw [Nat.add_mod_right]; exact h1', by omega⟩
    · exact ⟨h1', by omega⟩

end Cert.Proof.Select

end
-- ==== Proof.SelectWords.lean ====
/-
  The slow branch's selection read on words. A count of set lanes is the number of them; each threshold search is a search
  bit by bit; so the lanes `chosen` selects are the candidates with a non-negative key that fewer than the quota come before.
-/
module

public import proofs.«01_k».proof.Proof.Select
public import proofs.«01_k».proof.Proof.RowBody
public import Idealize.ShloMosaic.Lib.WordCmp
public import Idealize.ShloMosaic.Lib.IndicatorCount
public import Idealize.ShloMosaic.PureOps.Reduce
public import Mathlib.Tactic.Ring
public import Mathlib.Tactic.Positivity
public import Mathlib.Tactic.IntervalCases

@[expose] public section

set_option maxRecDepth 16384

noncomputable section

namespace Cert.Proof.Row

open Cert.Kernel Cert.Kernel.Gen
open Idealize.ShloMosaic Idealize.SL.Sem
open Finset Idealize.ShloMosaic.WordCmp

/-! ## Counts -/

/-- A count of set lanes is the number of them. -/
theorem count_eq (p : IVec S8x5000 1) : count p = BitVec.ofNat 32 #{i | p i = 1#1} := by
  unfold count
  unfold extractAt shapeCast
  refine (multiReductionI_eq_fold .add _ 0#32 reduces_S1x8x5000_S1 rfl _).trans ?_
  have hall : ∀ j : S1.Idx, (Finset.univ.filter fun i => reduces_S1x8x5000_S1.drop i = j) = (Finset.univ : Finset S1x8x5000.Idx) := by
    intro j
    refine Finset.filter_true_of_mem fun i _ => ?_
    funext a
    have h1 := (reduces_S1x8x5000_S1.drop i a).isLt
    have h2 := (j a).isLt
    have h3 : S1.size a = 1 := by fin_cases a; rfl
    apply Fin.ext; omega
  rw [hall]
  show (Finset.univ : Finset S1x8x5000.Idx).fold IntOp.addi (0#32) (fun k => (p (Shape.reshapeEquiv shapeCasts_S8x5000_S1x8x5000 k)).setWidth 32) = _
  rw [IndicatorCount.fold_addi_setWidth_eq_card]
  congr 1
  exact Finset.card_equiv (Shape.reshapeEquiv shapeCasts_S8x5000_S1x8x5000) (by intro i; simp)

theorem card_lanes : Fintype.card S8x5000.Idx = 40000 := by
  rw [Fintype.card_congr S8x5000.rowMajor, Fintype.card_fin]
  decide

theorem card_le (p : S8x5000.Idx → Prop) [DecidablePred p] : #{i | p i} ≤ 40000 := by
  rw [← card_lanes]; exact Finset.card_le_univ _

theorem toInt_count (p : IVec S8x5000 1) : (count p).toInt = #{i | p i = 1#1} := by
  rw [count_eq]; exact toInt_ofNat_of_lt (by have := card_le fun i => p i = 1#1; omega)

/-! ## A search bit by bit -/

/-- The accumulator after `k` trips. -/
def after (g : ℕ → BitVec 32 → BitVec 32) : ℕ → BitVec 32
  | 0 => 0#32
  | k + 1 => g k (after g k)

theorem foldl_range (g : ℕ → BitVec 32 → BitVec 32) (n : ℕ) : (List.range n).foldl (fun acc k => g k acc) 0#32 = after g n := by
  induction n with
  | zero => rfl
  | succ n ih => rw [List.range_succ, List.foldl_append, ih]; rfl

theorem fold_eq_after (g : ℕ → BitVec 32 → BitVec 32) (n : ℕ) : Scf.fold (n := n) (fun k acc => g k acc) 0#32 = after g n := by
  rw [Scf.fold_eq, ← foldl_range, ← List.map_coe_finRange_eq_range, List.foldl_map]

theorem fold_eq_after_of (g : ℕ → BitVec 32 → BitVec 32) (n m : ℕ) (h : n = m) : Scf.fold (n := n) (fun k acc => g k acc) 0#32 = after g m := by
  subst h; exact fold_eq_after g n

/-- The next lower bit set in an accumulator whose bits from there on are clear. -/
theorem toNat_ori_bit (n k : ℕ) (hn : n ≤ 31) (hk : k < n) (acc : BitVec 32) (h : acc.toNat % 2 ^ (n - k) = 0) :
    (Scalar.ori acc (Scalar.shli 1#32 (Scalar.subi (BitVec.ofNat 32 (n - 1)) (Scf.iv 0#32 1#32 k)))).toNat = acc.toNat + 2 ^ (n - 1 - k) := by
  have e1 : Scalar.subi (BitVec.ofNat 32 (n - 1)) (Scf.iv 0#32 1#32 k) = BitVec.ofNat 32 (n - 1 - k) := by
    apply BitVec.eq_of_toNat_eq
    show (BitVec.ofNat 32 (n - 1) - (0#32 + BitVec.ofNat 32 k * 1#32)).toNat = _
    rw [BitVec.mul_one, BitVec.zero_add, BitVec.toNat_sub, BitVec.toNat_ofNat, BitVec.toNat_ofNat, BitVec.toNat_ofNat]
    omega
  have e2 : (BitVec.ofNat 32 (n - 1 - k)).toNat = n - 1 - k := by rw [BitVec.toNat_ofNat]; omega
  have e3 : Scalar.shli 1#32 (BitVec.ofNat 32 (n - 1 - k)) = 1#32 <<< (n - 1 - k) := by
    show (if (BitVec.ofNat 32 (n - 1 - k)).toNat < 32 then 1#32 <<< (BitVec.ofNat 32 (n - 1 - k)) else _) = _
    rw [if_pos (by rw [e2]; omega), BitVec.shiftLeft_eq', e2]
  rw [e1, e3]
  show (acc ||| (1#32 <<< (n - 1 - k))).toNat = _
  rw [BitVec.toNat_or, BitVec.toNat_shiftLeft]
  have e4 : (1#32).toNat <<< (n - 1 - k) = 2 ^ (n - 1 - k) := by rw [Nat.shiftLeft_eq]; simp
  have e5 : 2 ^ (n - 1 - k) < 2 ^ 32 := Nat.pow_lt_pow_right (by omega) (by omega)
  rw [e4, Nat.mod_eq_of_lt e5]
  obtain ⟨a, ha⟩ := Nat.dvd_of_mod_eq_zero h
  rw [ha]
  exact (Nat.two_pow_add_eq_or_of_lt (Nat.pow_lt_pow_right (by omega) (by omega)) a).symm

/-- The search's accumulators are those of the search on numbers. -/
theorem toNat_after (P : ℕ → Prop) [DecidablePred P] (hP : ∀ a b, a ≤ b → P b → P a) (n : ℕ) (hn : n ≤ 31) (g : ℕ → BitVec 32 → BitVec 32)
    (c : BitVec 32 → BitVec 1) (hc : ∀ t : BitVec 32, t.toNat < 2 ^ 31 → (c t = 1#1 ↔ P t.toNat))
    (hg : ∀ k acc, g k acc = Scalar.select (c (Scalar.ori acc (Scalar.shli 1#32 (Scalar.subi (BitVec.ofNat 32 (n - 1)) (Scf.iv 0#32 1#32 k)))))
      (Scalar.ori acc (Scalar.shli 1#32 (Scalar.subi (BitVec.ofNat 32 (n - 1)) (Scf.iv 0#32 1#32 k)))) acc) :
    (after g n).toNat < 2 ^ n ∧ ((after g n).toNat = 0 ∨ P (after g n).toNat) ∧ ∀ v, v < 2 ^ n → P v → v ≤ (after g n).toNat := by
  let f : ℕ → ℕ := fun k => Nat.rec 0 (fun k acc => Select.bitStep P n k acc) k
  have hf : ∀ k, k < n → f (k + 1) = Select.bitStep P n k (f k) := fun _ _ => rfl
  have H : ∀ k, k ≤ n → (after g k).toNat = f k := by
    intro k
    induction k with
    | zero => intro _; rfl
    | succ k ih =>
      intro hk
      have ih := ih (by omega)
      obtain ⟨h1, h2⟩ := Select.bitSearch_mod P hP n f rfl hf k (by omega)
      have e := toNat_ori_bit n k hn (by omega) (after g k) (by rw [ih]; exact h1)
      have hlt : f k + 2 ^ (n - 1 - k) < 2 ^ 31 := by
        have a1 : 2 ^ n ≤ 2 ^ 31 := Nat.pow_le_pow_right (by omega) hn
        have a2 : 2 ^ (n - 1 - k) < 2 ^ (n - k) := Nat.pow_lt_pow_right (by omega) (by omega)
        omega
      rw [hf k (by omega)]
      show (g k (after g k)).toNat = _
      rw [hg]
      unfold Select.bitStep
      by_cases h : P (f k + 2 ^ (n - 1 - k))
      · rw [if_pos h, select_of_eq_one ((hc _ (by rw [e, ih]; exact hlt)).2 (by rw [e, ih]; exact h)), e, ih]
      · rw [if_neg h]
        have : c (Scalar.ori (after g k) (Scalar.shli 1#32 (Scalar.subi (BitVec.ofNat 32 (n - 1)) (Scf.iv 0#32 1#32 k)))) = 0#1 := by
          have hne := fun h' => h (by have := (hc _ (by rw [e, ih]; exact hlt)).1 h'; rwa [e, ih] at this)
          generalize c _ = b at hne
          revert b; decide
        rw [select_of_eq_zero this, ih]
  rw [H n le_rfl]
  exact Select.bitSearch_spec P hP n f rfl hf

/-! ## The thresholds -/

theorem sge_iff (x y : BitVec 32) : Scalar.cmpi .sge x y = 1#1 ↔ y.toInt ≤ x.toInt := by
  rw [scalar_cmpi_eq, cmpi_sge_eq, ofBool_decide_eq_one_iff]
theorem slt_iff (x y : BitVec 32) : Scalar.cmpi .slt x y = 1#1 ↔ x.toInt < y.toInt := by
  rw [scalar_cmpi_eq, cmpi_slt_eq, ofBool_decide_eq_one_iff]
theorem sgt_iff (x y : BitVec 32) : Scalar.cmpi .sgt x y = 1#1 ↔ y.toInt < x.toInt := by
  rw [scalar_cmpi_eq, cmpi_sgt_eq, ofBool_decide_eq_one_iff]
theorem sle_iff (x y : BitVec 32) : Scalar.cmpi .sle x y = 1#1 ↔ x.toInt ≤ y.toInt := by
  rw [scalar_cmpi_eq, cmpi_sle_eq, ofBool_decide_eq_one_iff]
theorem eq_iff (x y : BitVec 32) : Scalar.cmpi .eq x y = 1#1 ↔ x.toInt = y.toInt := by
  rw [scalar_cmpi_eq, cmpi_eq_eq, ofBool_decide_eq_one_iff, BitVec.toInt_inj]
theorem and_iff (x y : BitVec 1) : Scalar.andi x y = 1#1 ↔ x = 1#1 ∧ y = 1#1 := by revert x y; decide
theorem or_iff (x y : BitVec 1) : Scalar.ori x y = 1#1 ↔ x = 1#1 ∨ y = 1#1 := by revert x y; decide

theorem v_and {s : Shape} (p q : IVec s 1) (i : s.Idx) : andi p q i = Scalar.andi (p i) (q i) := rfl
theorem v_or {s : Shape} (p q : IVec s 1) (i : s.Idx) : ori p q i = Scalar.ori (p i) (q i) := rfl
theorem v_cmp {s : Shape} (o : CmpIPredicate) (p q : IVec s 32) (i : s.Idx) : cmpi o p q i = Scalar.cmpi o (p i) (q i) := rfl

section
variable (key : IVec S8x5000 32) (cand : IVec S8x5000 1) (idx : IVec S8x5000 32) (K : ℕ)

/-- How many are wanted, as a number. -/
abbrev kk : ℕ := min K #{l | cand l = 1#1}

theorem wanted_eq (hK : K < 2 ^ 31) : wanted cand (BitVec.ofNat 32 K) = BitVec.ofNat 32 (kk cand K) := by
  unfold wanted
  rw [count_eq]
  have hn := card_le fun l => cand l = 1#1
  show (if (BitVec.ofNat 32 K).slt (BitVec.ofNat 32 _) then _ else _) = _
  have e : (BitVec.ofNat 32 K).slt (BitVec.ofNat 32 #{l | cand l = 1#1}) = decide (K < #{l | cand l = 1#1}) := by
    show decide ((BitVec.ofNat 32 K).toInt < _) = _
    rw [toInt_ofNat_of_lt (by omega), toInt_ofNat_of_lt (by omega)]
    simp
  rw [e]
  unfold kk
  by_cases h : K < #{l | cand l = 1#1}
  · rw [if_pos (by simpa using h), Nat.min_eq_left h.le]
  · rw [if_neg (by simpa using h), Nat.min_eq_right (not_lt.1 h)]

theorem toInt_wanted (hK : K < 2 ^ 31) : (wanted cand (BitVec.ofNat 32 K)).toInt = kk cand K := by
  rw [wanted_eq cand K hK]
  exact toInt_ofNat_of_lt (by have := card_le fun l => cand l = 1#1; unfold kk; omega)

theorem thrV_spec (hK : K < 2 ^ 31) :
    (thrV key cand (BitVec.ofNat 32 K)).toNat < 2 ^ 31
      ∧ ((thrV key cand (BitVec.ofNat 32 K)).toNat = 0 ∨ kk cand K ≤ #{l | cand l = 1#1 ∧ ((thrV key cand (BitVec.ofNat 32 K)).toNat : ℤ) ≤ (key l).toInt})
      ∧ ∀ v : ℕ, v < 2 ^ 31 → kk cand K ≤ #{l | cand l = 1#1 ∧ (v : ℤ) ≤ (key l).toInt} → v ≤ (thrV key cand (BitVec.ofNat 32 K)).toNat := by
  have e : thrV key cand (BitVec.ofNat 32 K) = after (fun k acc => valueTrip key cand (wanted cand (BitVec.ofNat 32 K)) k acc) 31 := by
    unfold thrV
    exact fold_eq_after_of (fun k acc => valueTrip key cand (wanted cand (BitVec.ofNat 32 K)) k acc) k0_t1_loop.trips 31 (by decide)
  rw [e]
  refine toNat_after (fun v => kk cand K ≤ #{l | cand l = 1#1 ∧ (v : ℤ) ≤ (key l).toInt}) ?_ 31 le_rfl _
    (fun t => Scalar.cmpi .sge (count (andi (cmpi .sge key (broadcast S8x5000 t)) cand)) (wanted cand (BitVec.ofNat 32 K))) ?_ (fun k acc => rfl)
  · intro a b hab hb
    refine hb.trans (Finset.card_le_card ?_)
    intro l; simp only [mem_filter, mem_univ, true_and]
    exact fun h => ⟨h.1, by omega⟩
  · intro t ht
    rw [sge_iff, toInt_wanted cand K hK, toInt_count]
    rw [Nat.cast_le]
    have : ∀ l, (andi (cmpi .sge key (broadcast S8x5000 t)) cand l = 1#1) ↔ (cand l = 1#1 ∧ (t.toNat : ℤ) ≤ (key l).toInt) := by
      intro l
      rw [v_and, v_cmp, and_iff, sge_iff, broadcast_at, toInt_eq_toNat_of_lt_half ht]; tauto
    simp only [this]

theorem toInt_left (hK : K < 2 ^ 31) (v : BitVec 32) :
    (left key cand (BitVec.ofNat 32 K) v).toInt = (kk cand K : ℤ) - #{l | cand l = 1#1 ∧ v.toInt < (key l).toInt} := by
  unfold left
  show (_ - _ : BitVec 32).toInt = _
  have hc := card_le fun l => cand l = 1#1
  have hc2 := card_le fun l => cand l = 1#1 ∧ v.toInt < (key l).toInt
  have : ∀ l, (andi (cmpi .sgt key (broadcast S8x5000 v)) cand l = 1#1) ↔ (cand l = 1#1 ∧ v.toInt < (key l).toInt) := by
    intro l
    rw [v_and, v_cmp, and_iff, sgt_iff, broadcast_at]; tauto
  rw [BitVec.toInt_sub, toInt_wanted cand K hK, toInt_count]
  simp only [this]
  have hk : kk cand K ≤ 40000 := (Nat.min_le_right _ _).trans hc
  rw [Int.bmod_eq_of_le] <;> omega

theorem thrJ_spec (hK : K < 2 ^ 31) (v : BitVec 32) :
    (thrJ key cand idx (BitVec.ofNat 32 K) v).toNat < 2 ^ 15
      ∧ ((thrJ key cand idx (BitVec.ofNat 32 K) v).toNat = 0
        ∨ (#{l | ((key l).toInt = v.toInt ∧ cand l = 1#1) ∧ (idx l).toInt < ((thrJ key cand idx (BitVec.ofNat 32 K) v).toNat : ℤ)} : ℤ) < (left key cand (BitVec.ofNat 32 K) v).toInt)
      ∧ ∀ j : ℕ, j < 2 ^ 15 → (#{l | ((key l).toInt = v.toInt ∧ cand l = 1#1) ∧ (idx l).toInt < (j : ℤ)} : ℤ) < (left key cand (BitVec.ofNat 32 K) v).toInt
        → j ≤ (thrJ key cand idx (BitVec.ofNat 32 K) v).toNat := by
  have e : thrJ key cand idx (BitVec.ofNat 32 K) v
      = after (fun k acc => indexTrip (andi (cmpi .eq key (broadcast S8x5000 v)) cand) idx (left key cand (BitVec.ofNat 32 K) v) k acc) 15 := by
    unfold thrJ
    exact fold_eq_after_of (fun k acc => indexTrip (andi (cmpi .eq key (broadcast S8x5000 v)) cand) idx (left key cand (BitVec.ofNat 32 K) v) k acc) k0_t2_loop.trips 15 (by decide)
  rw [e]
  refine toNat_after (fun j => (#{l | ((key l).toInt = v.toInt ∧ cand l = 1#1) ∧ (idx l).toInt < (j : ℤ)} : ℤ) < (left key cand (BitVec.ofNat 32 K) v).toInt) ?_ 15 (by omega) _
    (fun t => Scalar.cmpi .slt (count (andi (andi (cmpi .eq key (broadcast S8x5000 v)) cand) (cmpi .slt idx (broadcast S8x5000 t)))) (left key cand (BitVec.ofNat 32 K) v))
    ?_ (fun k acc => rfl)
  · intro a b hab hb
    refine lt_of_le_of_lt ?_ hb
    rw [Nat.cast_le]
    refine Finset.card_le_card ?_
    intro l; simp only [mem_filter, mem_univ, true_and]
    exact fun h => ⟨h.1, by omega⟩
  · intro t ht
    rw [slt_iff, toInt_count]
    have : ∀ l, (andi (andi (cmpi .eq key (broadcast S8x5000 v)) cand) (cmpi .slt idx (broadcast S8x5000 t)) l = 1#1)
        ↔ (((key l).toInt = v.toInt ∧ cand l = 1#1) ∧ (idx l).toInt < (t.toNat : ℤ)) := by
      intro l
      rw [v_and, v_and, v_cmp, v_cmp, and_iff, and_iff, eq_iff, slt_iff, broadcast_at, broadcast_at, toInt_eq_toNat_of_lt_half ht]
    simp only [this]

/-- The thresholds' properties on words give selection by rank, over any finite set of lanes. -/
theorem chosen_logic {ι : Type} [Fintype ι] [DecidableEq ι] (key : ι → BitVec 32) (cand : ι → BitVec 1) (idx : ι → BitVec 32) (K k : ℕ) (V J : BitVec 32) (r : ℤ)
    (hk : k = min K #{l | cand l = 1#1}) (hidx : ∀ l, cand l = 1#1 → 0 ≤ (idx l).toInt ∧ (idx l).toInt < 32768)
    (hV1 : V.toNat < 2 ^ 31) (hV2 : V.toNat = 0 ∨ k ≤ #{l | cand l = 1#1 ∧ (V.toNat : ℤ) ≤ (key l).toInt})
    (hV3 : ∀ v : ℕ, v < 2 ^ 31 → k ≤ #{l | cand l = 1#1 ∧ (v : ℤ) ≤ (key l).toInt} → v ≤ V.toNat)
    (hr : r = (k : ℤ) - #{l | cand l = 1#1 ∧ V.toInt < (key l).toInt})
    (hJ1 : J.toNat < 2 ^ 15)
    (hJ2 : J.toNat = 0 ∨ (#{l | ((key l).toInt = V.toInt ∧ cand l = 1#1) ∧ (idx l).toInt < (J.toNat : ℤ)} : ℤ) < r)
    (hJ3 : ∀ j : ℕ, j < 2 ^ 15 → (#{l | ((key l).toInt = V.toInt ∧ cand l = 1#1) ∧ (idx l).toInt < (j : ℤ)} : ℤ) < r → j ≤ J.toNat)
    (i : ι) (hc : cand i = 1#1) :
    ((V.toInt < (key i).toInt ∨ (((key i).toInt = V.toInt ∧ (idx i).toInt ≤ J.toInt) ∧ 0 < r)) ∧ (0 : ℤ) < k)
      ↔ (Select.rank (fun l => cand l = 1#1) (fun l => (key l).toInt) (fun l => (idx l).toInt) i < K ∧ 0 ≤ (key i).toInt) := by
  have hVi : V.toInt = V.toNat := toInt_eq_toNat_of_lt_half hV1
  have hJi : J.toInt = J.toNat := toInt_eq_toNat_of_lt_half (hJ1.trans (by norm_num))
  have := Select.selected_iff (fun l => cand l = 1#1) (fun l => (key l).toInt) (fun l => (idx l).toInt) (K := K) (B := 2147483648) (V := V.toInt) (J := J.toInt) (i := i) hc
      (by have := BitVec.toInt_lt (x := key i); omega) (hidx i hc).2 (hidx i hc).1 k hk (by omega) (by rw [hVi]; have := hV1; omega)
      (by rw [hVi]; exact_mod_cast hV2)
      (by intro v hv0 hv1 hv2; obtain ⟨w, rfl⟩ := Int.eq_ofNat_of_zero_le hv0; rw [hVi]; exact_mod_cast hV3 w (by omega) hv2)
      r hr (by omega) (by rw [hJi]; exact_mod_cast hJ2)
      (by intro j hj0 hj1 hj2; obtain ⟨w, rfl⟩ := Int.eq_ofNat_of_zero_le hj0; rw [hJi]; exact_mod_cast hJ3 w (by omega) hj2)
      (fun l hl => (hidx l hl).1)
  rw [← this]
  simp only [Nat.cast_pos]

/-- The lanes the slow branch selects: candidates with a non-negative key that fewer than the quota come before. -/
theorem chosen_iff (hK : K < 2 ^ 31) (hidx : ∀ l, cand l = 1#1 → 0 ≤ (idx l).toInt ∧ (idx l).toInt < 32768) (i : S8x5000.Idx) :
    chosen key cand idx (BitVec.ofNat 32 K) i = 1#1
      ↔ cand i = 1#1 ∧ Select.rank (fun l => cand l = 1#1) (fun l => (key l).toInt) (fun l => (idx l).toInt) i < K ∧ 0 ≤ (key i).toInt := by
  obtain ⟨hV1, hV2, hV3⟩ := thrV_spec key cand K hK
  obtain ⟨hJ1, hJ2, hJ3⟩ := thrJ_spec key cand idx K hK (thrV key cand (BitVec.ofNat 32 K))
  unfold chosen
  generalize thrV key cand (BitVec.ofNat 32 K) = V at *
  generalize thrJ key cand idx (BitVec.ofNat 32 K) V = J at *
  have hL := toInt_left key cand K hK V
  generalize hk : kk cand K = k at *
  have hw := toInt_wanted cand K hK
  rw [hk] at hw
  unfold chosenAt
  generalize left key cand (BitVec.ofNat 32 K) V = L at *
  generalize wanted cand (BitVec.ofNat 32 K) = W at *
  simp only [v_and, v_or, v_cmp, and_iff, or_iff, sgt_iff, eq_iff, sle_iff]
  rw [broadcast_at, broadcast_at, broadcast_at, broadcast_at, sgt_iff, sgt_iff, hw]
  rw [show (0#32 : BitVec 32).toInt = 0 from rfl]
  by_cases hc : cand i = 1#1
  · rw [← chosen_logic key cand idx K k V J _ hk.symm hidx hV1 hV2 hV3 hL hJ1 hJ2 hJ3 i hc]
    simp only [hc, true_and, and_true]
  · simp only [hc, and_false, false_and, or_self]

end

end Cert.Proof.Row

end
-- ==== Proof.RefStep.lean ====
/-
  One run of the reference's body. Each trip of its outer loop reads one image's blocks and stores that image's row
  (`refRow`); the two inner loops issue nothing, so each is the fold of its trip (`rankOf`). After the loop the output
  holds every image's row (`refOut`).
-/
module

public import proofs.«01_k».proof.Proof.Gen.Reference.Frame
public import proofs.«01_k».proof.Proof.Gen.Reference.Skeleton
public import proofs.«01_k».proof.Proof.Gen.Reference.Loops
public import proofs.«01_k».proof.Proof.Gen.Reference.Launch
public import proofs.«01_k».proof.Proof.Gen.Reference.Points
public import Idealize.ShloMosaic.Lib.Pipeline.FrameBody
public import Idealize.ShloMosaic.Lib.Pipeline.Value
public import Idealize.ShloMosaic.Lib.Updates.Loop
public import Idealize.ShloMosaic.Lib.WritesUnit
public import Idealize.ShloMosaic.Lib.ValueIdxCore
public import Idealize.ShloMosaic.Lib.Claim
public import Idealize.ShloMosaic.Lib.Ring

@[expose] public section

set_option maxRecDepth 16384

noncomputable section

namespace Cert.Proof.Ref

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [BitOps F]

local notation "𝕄" => MT nD τ sig Unit (Elt F) ℕ (UR sig nD τ) ℕ

/-- The rank counts after all positions: how many candidates come before each lane. -/
def rankOf (v1 key : IVec S8x5000 32) (cand : IVec S8x5000 1) : IVec S8x5000 32 :=
  Scf.fold (n := k0_t2_loop.trips) (fun k acc => k0_pay13 v1 key cand k acc) k0_pay12

/-- The body's second part returns the positives' loss and the selected negatives' loss. -/
theorem part2_eq (arg0 : Memref sig .tc .vmem S32x8x5000 .f32) (harg0 : arg0.IsWhole) (arg1 : Memref sig .tc .vmem S32x8x5000 .i32) (harg1 : arg1.IsWhole) (arg2 : Memref sig .tc .vmem S32x8x5000 .i32) (harg2 : arg2.IsWhole) (arg3 : Memref sig .tc .vmem S32x8x5000 .i32) (harg3 : arg3.IsWhole) (arg4 : Memref sig .tc .vmem S8x5000 .i32) (harg4 : arg4.IsWhole)
    (arg5 : Memref sig .tc .vmem S32x8x10000 .f32) (harg5 : arg5.IsWhole) (arg6 : Memref sig .tc .vmem S32x1x128 .f32) (harg6 : arg6.IsWhole) (v1 : IVec S8x5000 32) (arg7 : BitVec 32) (v6 : FVec F S8x5000 .f32) (v14 : FVec F S8x5000 .f32) (v15 : IVec S8x5000 32) (v20 : IVec S8x5000 1) (v25 : BitVec 32) (v32 : IVec S8x5000 1) (v37 : BitVec 32) (v44 : IVec S8x5000 1) (v45 : IVec S8x5000 32) :
    k0_part2 (F := F) arg0 harg0 arg1 harg1 arg2 harg2 arg3 harg3 arg4 harg4 arg5 harg5 arg6 harg6 v1 arg7 v6 v14 v15 v20 v25 v32 v37 v44 v45
      = .ret ⟨k0_pay16 v6 v14 v20, k0_pay17 v14 v15 v25 v32 v37 v44 v45 (rankOf v1 v15 v32) (rankOf v1 v15 v44)⟩ := by
  rw [k0_part2_eq_skeleton]; unfold k0_part2_skel
  refine (Scf.for_pure_bind _ _ _ _ _ _ (fun k acc => k0_pay13 v1 v15 v32 k acc) (fun k acc => rfl) _).trans ?_
  refine (Scf.for_pure_bind _ _ _ _ _ _ (fun k acc => k0_pay15 v1 v15 v44 k acc) (fun k acc => rfl) _).trans ?_
  rfl

/-- One image's row, from the position numbers and the image's blocks. -/
def refRow (v0 : Vec F S8x5000 .i32) (y0 : Vec F S1x8x5000 .f32) (y1 y2 y3 : Vec F S1x8x5000 .i32) (y5 : Vec F S1x8x10000 .f32) : FVec F S1x1x128 .f32 :=
  k0_pay2 (extractAt ![0, 0, 0] (k0_pay7 y1) inpos_S1x1x1_p0_0_0) (k0_pay16 (k0_pay3 y0) (k0_pay4 y0) (k0_pay6 y1))
    (k0_pay17 (k0_pay4 y0) (k0_pay5 y0) (extractAt ![0, 0, 0] (k0_pay7 y1) inpos_S1x1x1_p0_0_0) (k0_pay8 y1 y2)
      (extractAt ![0, 0, 0] (k0_pay9 y1 y2) inpos_S1x1x1_p0_0_0) (k0_pay10 y1 y3) (k0_pay11 y1 y3)
      (rankOf (k0_pay1 v0) (k0_pay5 y0) (k0_pay8 y1 y2)) (rankOf (k0_pay1 v0) (k0_pay5 y0) (k0_pay10 y1 y3))) y5

/-- One image of a stack, still with a leading axis of one. -/
def image {Val : EltTy → Type} {e : EltTy} {n m k : ℕ} (x : (⟨3, ![n, m, k]⟩ : Shape).Idx → Val e) (b : Fin n) : (⟨3, ![1, m, k]⟩ : Shape).Idx → Val e :=
  fun i => x (ix3 b (i 1) (i 2))

/-- A load of image `b`. -/
theorem ld_image {Val : EltTy → Type} {e : EltTy} {n m k : ℕ} (x : (⟨3, ![n, m, k]⟩ : Shape).Idx → Val e) (b : Fin n) (off : Fin 3 → ℕ) (hoff : off = ![b.val, 0, 0])
    (inb : ∀ a, off a + (![1, m, k] : Fin 3 → ℕ) a ≤ (![n, m, k] : Fin 3 → ℕ) a) :
    View.ld x (Rect.unit (s := ⟨3, ![n, m, k]⟩) off ![1, m, k] inb) = image x b := by
  subst hoff
  funext i
  unfold image
  refine congrArg x (funext fun a => Fin.ext ?_)
  match a with
  | ⟨0, _⟩ =>
    have h : (i 0).val = 0 := by have := (i 0).isLt; change (i 0).val < 1 at this; omega
    show b.val + 1 * (i 0).val = b.val; omega
  | ⟨1, _⟩ => show 0 + 1 * (i 1).val = (i 1).val; omega
  | ⟨2, _⟩ => show 0 + 1 * (i 2).val = (i 2).val; omega

/-- The output: row `b` is image `b`'s. -/
def refOut (x0 : Vec F S32x8x5000 .f32) (x1 x2 x3 : Vec F S32x8x5000 .i32) (x4 : Vec F S8x5000 .i32) (x5 : Vec F S32x8x10000 .f32) : Vec F S32x1x128 .f32 :=
  fun y => refRow x4 (image x0 (y 0)) (image x1 (y 0)) (image x2 (y 0)) (image x3 (y 0)) (image x5 (y 0)) (ix3 0 (y 1) (y 2))

/-- What the loop holds: the images' blocks and the output at `X`. -/
def held (c : Dev nD) (arg0 : Memref sig .tc .vmem S32x8x5000 .f32) (arg1 arg2 arg3 : Memref sig .tc .vmem S32x8x5000 .i32) (arg5 : Memref sig .tc .vmem S32x8x10000 .f32) (arg6 : Memref sig .tc .vmem S32x1x128 .f32)
    (x0 : Vec F S32x8x5000 .f32) (x1 x2 x3 : Vec F S32x8x5000 .i32) (x5 : Vec F S32x8x10000 .f32) (X : Vec F S32x1x128 .f32) : sProp 𝕄 :=
  iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg5 fullShare x5 ∗ owns (c : Thread nD τ) arg6 fullShare X)

theorem trips_eq : k0_t1_loop.trips = 32 := by decide

/-- Before trip `k` the first `k` rows are written. -/
def Written (G X : Vec F S32x1x128 .f32) (k : ℕ) : Prop := ∀ y : S32x1x128.Idx, (y 0).val < k → X y = G y

set_option maxHeartbeats 1000000 in
/-- One trip writes one more row. -/
theorem trip_run (c : Dev nD) (arg0 : Memref sig .tc .vmem S32x8x5000 .f32) (harg0 : arg0.IsWhole) (arg1 : Memref sig .tc .vmem S32x8x5000 .i32) (harg1 : arg1.IsWhole) (arg2 : Memref sig .tc .vmem S32x8x5000 .i32) (harg2 : arg2.IsWhole) (arg3 : Memref sig .tc .vmem S32x8x5000 .i32) (harg3 : arg3.IsWhole) (arg4 : Memref sig .tc .vmem S8x5000 .i32) (harg4 : arg4.IsWhole)
    (arg5 : Memref sig .tc .vmem S32x8x10000 .f32) (harg5 : arg5.IsWhole) (arg6 : Memref sig .tc .vmem S32x1x128 .f32) (harg6 : arg6.IsWhole)
    (x0 : Vec F S32x8x5000 .f32) (x1 x2 x3 : Vec F S32x8x5000 .i32) (x4 : Vec F S8x5000 .i32) (x5 : Vec F S32x8x10000 .f32) (k : Fin k0_t1_loop.trips) (X : Vec F S32x1x128 .f32)
    (hX : Written (refOut x0 x1 x2 x3 x4 x5) X k.val) :
    held c arg0 arg1 arg2 arg3 arg5 arg6 x0 x1 x2 x3 x5 X
      ⊢ wp frame (wpE (defs₀ (F := F)) Variants.none c none) Set.univ (k0_t1_body arg0 harg0 arg1 harg1 arg2 harg2 arg3 harg3 arg4 harg4 arg5 harg5 arg6 harg6 x4 k ())
          (fun _ => Updates.heldWith (held c arg0 arg1 arg2 arg3 arg5 arg6 x0 x1 x2 x3 x5) (fun X' => Written (refOut x0 x1 x2 x3 x4 x5) X' (k.val + 1))) := by
  unfold k0_t1_body Updates.heldWith held
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩⟩
  simp only [k0_part1_eq_skeleton]; unfold k0_part1_skel
  simp only [Prog.bind_assoc, pure_bind, part2_eq]
  sl_exec
  sl_step
  iexists _
  isplitl
  · isplitl [H0]
    · iexists f0; isplitr; · ipureintro; exact hf0
      iexact H0
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H5]
    · iexists f5; isplitr; · ipureintro; exact hf5
      iexact H5
    iexists _; isplitr
    swap; · iexact H6
    ipureintro; rfl
  ipureintro
  subst hf0 hf1 hf2 hf3 hf5 hf6
  have hk : k.val < 32 := k.isLt.trans_eq trips_eq
  intro y hy
  by_cases hlt : (y 0).val < k.val
  · refine (View.read_writes_cons_unit_of_not_mem _ _ _ _ _ y (k0_off3_eq k) 0 (.inl hlt)).trans ?_
    exact hX y hlt
  · have hyk : y 0 = (⟨k.val, hk⟩ : Fin 32) := Fin.ext (by show (y 0).val = k.val; omega)
    refine (View.read_writes_cons_unit_of_mem _ _ _ _ _ y (ix3 0 (y 1) (y 2)) (k0_off3_eq k) ?_).trans ?_
    · intro a
      match a with
      | ⟨0, _⟩ => show (y 0).val = k.val + 0; omega
      | ⟨1, _⟩ => show (y 1).val = 0 + (y 1).val; omega
      | ⟨2, _⟩ => show (y 2).val = 0 + (y 2).val; omega
    · unfold refOut
      rw [hyk]
      have e0 : ∀ inb, View.ld (View.read (Elt F) arg0.view f0) (Rect.unit (s := S32x8x5000) (k0_off1 k) S1x8x5000.size inb) = image (View.read (Elt F) arg0.view f0) (⟨k.val, hk⟩ : Fin 32) := fun inb => ld_image _ _ _ (k0_off1_eq k) _
      have e1 : ∀ inb, View.ld (View.read (Elt F) arg1.view f1) (Rect.unit (s := S32x8x5000) (k0_off1 k) S1x8x5000.size inb) = image (View.read (Elt F) arg1.view f1) (⟨k.val, hk⟩ : Fin 32) := fun inb => ld_image _ _ _ (k0_off1_eq k) _
      have e2 : ∀ inb, View.ld (View.read (Elt F) arg2.view f2) (Rect.unit (s := S32x8x5000) (k0_off1 k) S1x8x5000.size inb) = image (View.read (Elt F) arg2.view f2) (⟨k.val, hk⟩ : Fin 32) := fun inb => ld_image _ _ _ (k0_off1_eq k) _
      have e3 : ∀ inb, View.ld (View.read (Elt F) arg3.view f3) (Rect.unit (s := S32x8x5000) (k0_off1 k) S1x8x5000.size inb) = image (View.read (Elt F) arg3.view f3) (⟨k.val, hk⟩ : Fin 32) := fun inb => ld_image _ _ _ (k0_off1_eq k) _
      have e5 : ∀ inb, View.ld (View.read (Elt F) arg5.view f5) (Rect.unit (s := S32x8x10000) (k0_off2 k) S1x8x10000.size inb) = image (View.read (Elt F) arg5.view f5) (⟨k.val, hk⟩ : Fin 32) := fun inb => ld_image _ _ _ (k0_off2_eq k) _
      rw [← e0 (k0_off1_inb k), ← e1 (k0_off1_inb k), ← e2 (k0_off1_inb k), ← e3 (k0_off1_inb k), ← e5 (k0_off2_inb k)]
      rfl

/-- The load of the position numbers. -/
theorem load_run (c : Dev nD) (arg4 : Memref sig .tc .vmem S8x5000 .i32) (harg4 : arg4.IsWhole) (x4 : Vec F S8x5000 .i32) :
    owns (c : Thread nD τ) arg4 fullShare x4
      ⊢ wp frame (wpE (defs₀ (F := F)) Variants.none c none) Set.univ
          ((do let v0 : Vec F S8x5000 .i32 ← Prog.lift (.load arg4 (Rect.unit (s := S8x5000) ![0, 0] S8x5000.size inb_S8x5000_S8x5000_0_0).toLoadRect (View.loadsAt_vmem h_S8x5000)); pure v0) : Prog (TpuEff nD τ sig (Elt F) Λ₀ .tc) (Vec F S8x5000 .i32))
          (fun v => (iprop(⌜v = x4⌝ ∗ owns (c : Thread nD τ) arg4 fullShare x4) : sProp 𝕄)) := by
  unfold owns
  iintro ⟨%f4, %hf4, H4⟩
  sl_exec
  sl_step
  isplitr
  · ipureintro; subst hf4
    exact View.ld_unit_zero (by funext a; match a with | ⟨0, _⟩ => rfl | ⟨1, _⟩ => rfl) _ _
  iexists f4; isplitr; · ipureintro; exact hf4
  iexact H4

set_option maxHeartbeats 1000000 in
/-- From the inputs' buffers at `x0 … x5` and the output's at anything, the body runs to the inputs as they were and the
    output at `refOut` of them. -/
theorem kernel_run (c : Dev nD) (arg0 : Memref sig .tc .vmem S32x8x5000 .f32) (harg0 : arg0.IsWhole) (arg1 : Memref sig .tc .vmem S32x8x5000 .i32) (harg1 : arg1.IsWhole) (arg2 : Memref sig .tc .vmem S32x8x5000 .i32) (harg2 : arg2.IsWhole) (arg3 : Memref sig .tc .vmem S32x8x5000 .i32) (harg3 : arg3.IsWhole) (arg4 : Memref sig .tc .vmem S8x5000 .i32) (harg4 : arg4.IsWhole)
    (arg5 : Memref sig .tc .vmem S32x8x10000 .f32) (harg5 : arg5.IsWhole) (arg6 : Memref sig .tc .vmem S32x1x128 .f32) (harg6 : arg6.IsWhole)
    (x0 : Vec F S32x8x5000 .f32) (x1 x2 x3 : Vec F S32x8x5000 .i32) (x4 : Vec F S8x5000 .i32) (x5 : Vec F S32x8x10000 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (refOut x0 x1 x2 x3 x4 x5)) -∗ K ⟨⟩))
      ⊢ wp frame (wpE (defs₀ (F := F)) Variants.none c none) Set.univ (cc0__ref_body arg0 harg0 arg1 harg1 arg2 harg2 arg3 harg3 arg4 harg4 arg5 harg5 arg6 harg6) K := by
  have T := fun k X hX => trip_run (F := F) c arg0 harg0 arg1 harg1 arg2 harg2 arg3 harg3 arg4 harg4 arg5 harg5 arg6 harg6 x0 x1 x2 x3 x4 x5 k X hX
  rw [cc0__ref_body_eq_skeleton]; unfold cc0__ref_body_skel
  have hL := Updates.fold_inv frame (wpE (defs₀ (F := F)) Variants.none (c : Thread nD τ) none) Set.univ k0_t1_loop.lb k0_t1_loop.ub k0_t1_loop.st k0_t1_ok
    (k0_t1_body arg0 harg0 arg1 harg1 arg2 harg2 arg3 harg3 arg4 harg4 arg5 harg5 arg6 harg6 x4) (held c arg0 arg1 arg2 arg3 arg5 arg6 x0 x1 x2 x3 x5)
    (fun n X => Written (refOut x0 x1 x2 x3 x4 x5) X n) T
  iintro ⟨H0, H1, H2, H3, H4, H5, ⟨%d6, H6⟩, Hk⟩
  rw [wp_bind, show (Prog.lift (.load arg4 (Rect.unit (s := S8x5000) ![0, 0] S8x5000.size inb_S8x5000_S8x5000_0_0).toLoadRect (View.loadsAt_vmem h_S8x5000)) : Prog (TpuEff nD τ sig (Elt F) Λ₀ .tc) (Vec F S8x5000 .i32))
    = (do let v0 : Vec F S8x5000 .i32 ← Prog.lift (.load arg4 (Rect.unit (s := S8x5000) ![0, 0] S8x5000.size inb_S8x5000_S8x5000_0_0).toLoadRect (View.loadsAt_vmem h_S8x5000)); pure v0) from rfl]
  iapply (wp_wand_r frame (wpE (defs₀ (F := F)) Variants.none (c : Thread nD τ) none) Set.univ)
  isplitl [H4]
  · iapply (load_run c arg4 harg4 x4); iexact H4
  iintro %v ⟨%hv, H4⟩
  subst hv
  dsimp only
  rw [wp_bind]
  iapply (wp_wand_r frame (wpE (defs₀ (F := F)) Variants.none (c : Thread nD τ) none) Set.univ)
  isplitl [H0 H1 H2 H3 H5 H6]
  · iapply hL
    unfold Updates.heldWith
    iexists d6
    isplitl
    · unfold held
      isplitl [H0]; · iexact H0
      isplitl [H1]; · iexact H1
      isplitl [H2]; · iexact H2
      isplitl [H3]; · iexact H3
      isplitl [H5]; · iexact H5
      iexact H6
    · ipureintro
      intro y hy; exact absurd hy (Nat.not_lt_zero _)
  unfold Updates.heldWith held
  iintro %_ ⟨%X, ⟨H0, H1, H2, H3, H5, H6⟩, %hX⟩
  have hXe : X = refOut x0 x1 x2 x3 v x5 := funext fun y => hX y (lt_of_lt_of_eq (y 0).isLt trips_eq.symm)
  subst hXe
  sl_step
  iapply Hk
  isplitl [H0]; · iexact H0
  isplitl [H1]; · iexact H1
  isplitl [H2]; · iexact H2
  isplitl [H3]; · iexact H3
  isplitl [H4]; · iexact H4
  isplitl [H5]; · iexact H5
  iexact H6

end Cert.Proof.Ref

end
-- ==== Proof.RefRank.lean ====
/-
  The reference's rank counts. A trip of the inner loop finds the lane with its position number, if there is one, and adds one
  to every lane that a candidate there comes before; so after all positions a lane's count is its rank (`Select.rank`).
-/
module

public import proofs.«01_k».proof.Proof.SelectWords
public import proofs.«01_k».proof.Proof.RefStep

@[expose] public section

set_option maxRecDepth 16384

noncomputable section

namespace Cert.Proof.Ref

open Cert.Reference Cert.Reference.Gen
open Idealize.ShloMosaic Idealize.SL.Sem
open Finset Idealize.ShloMosaic.WordCmp
open Cert.Proof.Row (sgt_iff eq_iff slt_iff sle_iff and_iff or_iff card_le count_eq)

theorem sel_pos {α : Type} {c : BitVec 1} (h : c = 1#1) (a b : α) : Scalar.select c a b = a := if_pos h
theorem sel_neg {α : Type} {c : BitVec 1} (h : ¬ c = 1#1) (a b : α) : Scalar.select c a b = b := if_neg h

/-- A fold over the trips as a fold over their numbers. -/
theorem fold_range {σ : Type} (n : ℕ) (g : Fin n → σ → σ) (init : σ) :
    Scf.fold g init = (List.range n).foldl (fun acc k => if hk : k < n then g ⟨k, hk⟩ acc else acc) init := by
  rw [Scf.fold_eq, ← List.map_coe_finRange_eq_range, List.foldl_map]
  congr 1
  funext acc k
  rw [dif_pos k.isLt]

/-! ## A sum with one nonzero term -/

section
variable {ι : Type} [DecidableEq ι]

theorem fold_zero (f : ι → BitVec 32) (s : Finset ι) (h : ∀ i ∈ s, f i = 0#32) : s.fold IntOp.addi 0#32 f = 0#32 := by
  induction s using Finset.induction_on with
  | empty => rfl
  | insert a s ha ih =>
    rw [Finset.fold_insert ha, h a (mem_insert_self a s), ih fun i hi => h i (mem_insert_of_mem hi)]
    rfl

theorem fold_single (f : ι → BitVec 32) (s : Finset ι) (l : ι) (hl : l ∈ s) (h : ∀ i ∈ s, i ≠ l → f i = 0#32) : s.fold IntOp.addi 0#32 f = f l := by
  rw [← Finset.insert_erase hl, Finset.fold_insert (Finset.notMem_erase l s), fold_zero]
  · exact BitVec.add_zero _
  · intro i hi
    exact h i (mem_of_mem_erase hi) (ne_of_mem_erase hi)

end

/-! ## One trip -/

/-- The keys at position `j`, added up. -/
def keyAt (v1 key : IVec S8x5000 32) (j : BitVec 32) : BitVec 32 :=
  extractAt ![0, 0, 0] (shapeCast S1x1x1 (multiReductionI .add [1, 2] S1
    (shapeCast S1x8x5000 (select (cmpi .eq v1 (broadcast S8x5000 j)) key (broadcast S8x5000 0#32)) shapeCasts_S8x5000_S1x8x5000)
    0#32 reduces_S1x8x5000_S1 rfl) shapeCasts_S1_S1x1x1) inpos_S1x1x1_p0_0_0

/-- A lane alone at its position is what is found there. -/
theorem keyAt_eq (v1 key : IVec S8x5000 32) (j : BitVec 32) (l : S8x5000.Idx) (hl : v1 l = j) (hu : ∀ l', v1 l' = j → l' = l) : keyAt v1 key j = key l := by
  unfold keyAt extractAt shapeCast
  refine (multiReductionI_eq_fold .add _ 0#32 reduces_S1x8x5000_S1 rfl _).trans ?_
  refine (fold_single _ _ ((Shape.reshapeEquiv shapeCasts_S8x5000_S1x8x5000).symm l) ?_ ?_).trans ?_
  · rw [Finset.mem_filter]
    refine ⟨Finset.mem_univ _, ?_⟩
    funext a
    have h3 : S1.size a = 1 := by fin_cases a; rfl
    exact Fin.ext (by
      have h1 := (reduces_S1x8x5000_S1.drop ((Shape.reshapeEquiv shapeCasts_S8x5000_S1x8x5000).symm l) a).isLt
      have h2 := (Shape.reshapeEquiv shapeCasts_S1_S1x1x1 (fun a => ⟨![0, 0, 0] a, inpos_S1x1x1_p0_0_0 a⟩) a).isLt
      omega)
  · intro i _ hi
    show Scalar.select (Scalar.cmpi .eq (v1 (Shape.reshapeEquiv shapeCasts_S8x5000_S1x8x5000 i)) j) (key _) 0#32 = 0#32
    have : ¬ Scalar.cmpi .eq (v1 (Shape.reshapeEquiv shapeCasts_S8x5000_S1x8x5000 i)) j = 1#1 := by
      rw [eq_iff, BitVec.toInt_inj]
      intro he
      exact hi (by rw [← hu _ he, Equiv.symm_apply_apply])
    exact sel_neg this _ _
  · show Scalar.select (Scalar.cmpi .eq (v1 (Shape.reshapeEquiv shapeCasts_S8x5000_S1x8x5000 ((Shape.reshapeEquiv shapeCasts_S8x5000_S1x8x5000).symm l))) j)
      (key (Shape.reshapeEquiv shapeCasts_S8x5000_S1x8x5000 ((Shape.reshapeEquiv shapeCasts_S8x5000_S1x8x5000).symm l))) 0#32 = key l
    rw [Equiv.apply_symm_apply]
    exact sel_pos ((eq_iff _ _).2 (by rw [hl])) _ _

/-- A trip from what it finds at its position. -/
def tripFrom (v1 key : IVec S8x5000 32) (j kj cj : BitVec 32) (acc : IVec S8x5000 32) : IVec S8x5000 32 :=
  addi acc (select (ori (cmpi .sgt (broadcast S8x5000 kj) key) (andi (cmpi .eq (broadcast S8x5000 kj) key) (cmpi .slt (broadcast S8x5000 j) v1)))
    (broadcast S8x5000 cj) (broadcast S8x5000 0#32))

theorem tripFrom_apply (v1 key : IVec S8x5000 32) (j kj cj : BitVec 32) (acc : IVec S8x5000 32) (i : S8x5000.Idx) :
    tripFrom v1 key j kj cj acc i = acc i + Scalar.select (Scalar.ori (Scalar.cmpi .sgt kj (key i)) (Scalar.andi (Scalar.cmpi .eq kj (key i)) (Scalar.cmpi .slt j (v1 i)))) cj 0#32 := rfl

/-- The count as the reference's text spells it. -/
def countR (p : IVec S8x5000 1) : BitVec 32 :=
  extractAt ![0, 0, 0] (shapeCast S1x1x1 (multiReductionI .add [1, 2] S1
    (shapeCast S1x8x5000 (extui 32 p natLt_1_32) shapeCasts_S8x5000_S1x8x5000) 0#32 reduces_S1x8x5000_S1 rfl) shapeCasts_S1_S1x1x1) inpos_S1x1x1_p0_0_0

theorem countR_eq (p : IVec S8x5000 1) : countR p = Row.count p := by
  unfold countR Row.count; rfl

theorem trip_eq (v1 key : IVec S8x5000 32) (cand : IVec S8x5000 1) (k : Fin k0_t2_loop.trips) (acc : IVec S8x5000 32) :
    k0_pay13 v1 key cand k acc = tripFrom v1 key (Scf.iv 0#32 1#32 k.val) (keyAt v1 key (Scf.iv 0#32 1#32 k.val))
      (countR (andi (cmpi .eq v1 (broadcast S8x5000 (Scf.iv 0#32 1#32 k.val))) cand)) acc := by
  unfold k0_pay13 tripFrom keyAt countR
  generalize Scf.iv 0#32 1#32 k.val = j
  rfl

/-- A trip at a lane. -/
theorem trip_apply (v1 key : IVec S8x5000 32) (cand : IVec S8x5000 1) (k : Fin k0_t2_loop.trips) (acc : IVec S8x5000 32) (i : S8x5000.Idx) :
    k0_pay13 v1 key cand k acc i
      = acc i + Scalar.select (Scalar.ori (Scalar.cmpi .sgt (keyAt v1 key (Scf.iv 0#32 1#32 k)) (key i))
          (Scalar.andi (Scalar.cmpi .eq (keyAt v1 key (Scf.iv 0#32 1#32 k)) (key i)) (Scalar.cmpi .slt (Scf.iv 0#32 1#32 k) (v1 i))))
        (Row.count (andi (cmpi .eq v1 (broadcast S8x5000 (Scf.iv 0#32 1#32 k))) cand)) 0#32 := by
  rw [trip_eq, tripFrom_apply, countR_eq]

theorem iv_eq (k : ℕ) : Scf.iv 0#32 1#32 k = BitVec.ofNat 32 k := by
  show 0#32 + BitVec.ofNat 32 k * 1#32 = _
  rw [BitVec.mul_one, BitVec.zero_add]

section
variable {ι : Type} [Fintype ι] [DecidableEq ι] (v1 key : ι → BitVec 32) (cand : ι → BitVec 1)

/-- What a trip adds: the number of candidates at its position that come before. -/
theorem addend_eq (j kj ki vi : BitVec 32) (hu : ∀ l l', v1 l = j → v1 l' = j → l' = l) (hkj : ∀ l, v1 l = j → kj = key l) :
    Scalar.select (Scalar.ori (Scalar.cmpi .sgt kj ki) (Scalar.andi (Scalar.cmpi .eq kj ki) (Scalar.cmpi .slt j vi)))
        (BitVec.ofNat 32 #{l | Scalar.andi (Scalar.cmpi .eq (v1 l) j) (cand l) = 1#1}) 0#32
      = BitVec.ofNat 32 #{l | v1 l = j ∧ cand l = 1#1 ∧ (ki.toInt < (key l).toInt ∨ (key l).toInt = ki.toInt ∧ (v1 l).toInt < vi.toInt)} := by
  by_cases hex : ∃ l, v1 l = j
  · obtain ⟨l, hl⟩ := hex
    rw [hkj l hl]
    have he : ∀ l', Scalar.cmpi .eq (v1 l') j = 1#1 ↔ v1 l' = j := fun l' => by rw [eq_iff, BitVec.toInt_inj]
    by_cases hb : ki.toInt < (key l).toInt ∨ (key l).toInt = ki.toInt ∧ j.toInt < vi.toInt
    · rw [sel_pos (by rw [or_iff, and_iff, sgt_iff, eq_iff, slt_iff]; exact hb)]
      congr 2
      ext l'
      simp only [mem_filter, mem_univ, true_and, and_iff, he]
      constructor
      · rintro ⟨h1, h2⟩
        refine ⟨h1, h2, ?_⟩
        rw [hu l l' hl h1, hl]; exact hb
      · rintro ⟨h1, h2, -⟩; exact ⟨h1, h2⟩
    · rw [sel_neg (by rw [or_iff, and_iff, sgt_iff, eq_iff, slt_iff]; exact hb)]
      rw [Finset.card_eq_zero.2]
      rw [Finset.filter_eq_empty_iff]
      rintro l' - ⟨h1, -, h3⟩
      rw [hu l l' hl h1, hl] at h3
      exact hb h3
  · have e1 : #{l | Scalar.andi (Scalar.cmpi .eq (v1 l) j) (cand l) = 1#1} = 0 := by
      rw [Finset.card_eq_zero, Finset.filter_eq_empty_iff]
      intro l _
      rw [and_iff, eq_iff, BitVec.toInt_inj]
      exact fun h => hex ⟨l, h.1⟩
    have e2 : #{l | v1 l = j ∧ cand l = 1#1 ∧ (ki.toInt < (key l).toInt ∨ (key l).toInt = ki.toInt ∧ (v1 l).toInt < vi.toInt)} = 0 := by
      rw [Finset.card_eq_zero, Finset.filter_eq_empty_iff]
      intro l _ h
      exact hex ⟨l, h.1⟩
    rw [e1, e2]
    unfold Scalar.select
    split <;> rfl

/-- The lanes at positions below `n + 1` are those below `n` and those at `n`. -/
theorem card_succ (Q : ι → Prop) [DecidablePred Q] (n : ℕ) (hn : n < 2 ^ 32) :
    BitVec.ofNat 32 #{l | (v1 l).toNat < n + 1 ∧ Q l} = BitVec.ofNat 32 #{l | (v1 l).toNat < n ∧ Q l} + BitVec.ofNat 32 #{l | v1 l = BitVec.ofNat 32 n ∧ Q l} := by
  rw [← BitVec.ofNat_add, ← Finset.card_union_of_disjoint]
  · congr 2
    ext l
    have : v1 l = BitVec.ofNat 32 n ↔ (v1 l).toNat = n := by
      constructor
      · intro h; rw [h, BitVec.toNat_ofNat, Nat.mod_eq_of_lt hn]
      · intro h; apply BitVec.eq_of_toNat_eq; rw [h, BitVec.toNat_ofNat, Nat.mod_eq_of_lt hn]
    simp only [mem_filter, mem_univ, true_and, mem_union, this]
    constructor
    · rintro ⟨h1, h2⟩
      rcases Nat.lt_succ_iff_lt_or_eq.1 h1 with h | h
      · exact .inl ⟨h, h2⟩
      · exact .inr ⟨h, h2⟩
    · rintro (⟨h1, h2⟩ | ⟨h1, h2⟩)
      · exact ⟨by omega, h2⟩
      · exact ⟨by omega, h2⟩
  · rw [Finset.disjoint_filter]
    rintro l - ⟨h1, -⟩ ⟨h2, -⟩
    rw [h2, BitVec.toNat_ofNat, Nat.mod_eq_of_lt hn] at h1
    omega

end

/-! ## All trips -/

theorem trips2_eq : k0_t2_loop.trips = 20000 := by decide +kernel

variable (v1 key : IVec S8x5000 32) (cand : IVec S8x5000 1)

/-- After `n` positions a lane's count is the number of candidates at them that come before it. -/
theorem foldl_take (hu : ∀ l l' : S8x5000.Idx, 0 ≤ (v1 l).toInt → v1 l' = v1 l → l' = l) (i : S8x5000.Idx) (n : ℕ) (hn : n ≤ 20000) (g : ℕ → IVec S8x5000 32 → IVec S8x5000 32)
    (hg : ∀ k (hk : k < k0_t2_loop.trips) acc, g k acc = k0_pay13 v1 key cand ⟨k, hk⟩ acc) :
    (List.range n).foldl (fun acc k => g k acc) k0_pay12 i
      = BitVec.ofNat 32 #{l : S8x5000.Idx | (v1 l).toNat < n ∧ cand l = 1#1 ∧ ((key i).toInt < (key l).toInt ∨ (key l).toInt = (key i).toInt ∧ (v1 l).toInt < (v1 i).toInt)} := by
  induction n with
  | zero =>
    rw [Finset.card_eq_zero.2]
    · rfl
    · rw [Finset.filter_eq_empty_iff]
      rintro l - ⟨h, -⟩
      exact absurd h (Nat.not_lt_zero _)
  | succ n ih =>
    have hpos : 0 ≤ (BitVec.ofNat 32 n).toInt := by rw [toInt_ofNat_of_lt (by omega)]; omega
    have hu' : ∀ l l' : S8x5000.Idx, v1 l = BitVec.ofNat 32 n → v1 l' = BitVec.ofNat 32 n → l' = l := fun l l' h h' =>
      hu l l' (by rw [h]; exact hpos) (h'.trans h.symm)
    rw [List.range_succ, List.foldl_append]
    show g n _ i = _
    rw [hg n (lt_of_lt_of_eq (by omega) trips2_eq.symm), trip_apply, ih (by omega)]
    rw [show Scf.iv 0#32 1#32 (⟨n, lt_of_lt_of_eq (by omega) trips2_eq.symm⟩ : Fin k0_t2_loop.trips).val = BitVec.ofNat 32 n from iv_eq n]
    rw [card_succ v1 _ n (by omega), count_eq]
    congr 1
    exact addend_eq v1 key cand (BitVec.ofNat 32 n) _ (key i) (v1 i) hu' (fun l hl => keyAt_eq v1 key _ l hl fun l' hl' => hu' l l' hl hl')

/-- The rank counts are the ranks. -/
theorem rankOf_eq (hu : ∀ l l' : S8x5000.Idx, 0 ≤ (v1 l).toInt → v1 l' = v1 l → l' = l) (hc : ∀ l : S8x5000.Idx, cand l = 1#1 → (v1 l).toNat < 20000) (i : S8x5000.Idx) :
    rankOf v1 key cand i = BitVec.ofNat 32 (Select.rank (fun l : S8x5000.Idx => cand l = 1#1) (fun l => (key l).toInt) (fun l => (v1 l).toInt) i) := by
  have h := foldl_take v1 key cand hu i k0_t2_loop.trips trips2_eq.le
    (fun k acc => if hk : k < k0_t2_loop.trips then k0_pay13 v1 key cand ⟨k, hk⟩ acc else acc) (fun k hk acc => by rw [dif_pos hk])
  unfold rankOf
  rw [fold_range k0_t2_loop.trips (fun k acc => k0_pay13 v1 key cand k acc) k0_pay12, h]
  unfold Select.rank
  refine congrArg (BitVec.ofNat 32) (congrArg Finset.card (Finset.filter_congr ?_))
  intro l _
  constructor
  · rintro ⟨-, h2⟩; exact h2
  · intro h2; exact ⟨lt_of_lt_of_eq (hc l h2.1) trips2_eq.symm, h2⟩

theorem toInt_rankOf (hu : ∀ l l' : S8x5000.Idx, 0 ≤ (v1 l).toInt → v1 l' = v1 l → l' = l) (hc : ∀ l : S8x5000.Idx, cand l = 1#1 → (v1 l).toNat < 20000) (i : S8x5000.Idx) :
    (rankOf v1 key cand i).toInt = (Select.rank (fun l : S8x5000.Idx => cand l = 1#1) (fun l => (key l).toInt) (fun l => (v1 l).toInt) i : ℕ) := by
  rw [rankOf_eq v1 key cand hu hc i]
  exact toInt_ofNat_of_lt (by
    have := card_le fun l => cand l = 1#1 ∧ ((key i).toInt < (key l).toInt ∨ (key l).toInt = (key i).toInt ∧ (v1 l).toInt < (v1 i).toInt)
    exact lt_of_le_of_lt this (by norm_num))

end Cert.Proof.Ref

end
-- ==== Proof.RowEq.lean ====
/-
  One image's row is the same on both sides. The masks select the same lanes, candidates only; at those lanes both programs have
  the same loss; so the sums agree summand by summand.
-/
module

public import proofs.«01_k».proof.Proof.RowStep
public import proofs.«01_k».proof.Proof.RefRank

@[expose] public section

set_option maxRecDepth 16384

noncomputable section

namespace Cert.Proof.Row

open Cert.Kernel Cert.Kernel.Gen
open Idealize.ShloMosaic Idealize.SL.Sem
open Finset Idealize.ShloMosaic.WordCmp
open Cert.Proof.Ref (rankOf toInt_rankOf sel_pos sel_neg)

variable {F : FTy → Type} [BitOps F]

/-! ## The reference's mask -/

/-- The lanes the reference selects, from the counts and ranks. -/
def refMask (key : IVec S8x5000 32) (quota : BitVec 32) (cm cl : IVec S8x5000 1) (rm rl : IVec S8x5000 32) : IVec S8x5000 1 :=
  ori (andi (andi cm (cmpi .slt rm (broadcast S8x5000 quota)))
      (ori (cmpi .sge key (broadcast S8x5000 0#32)) (broadcast S8x5000 (Scalar.andi (Scalar.cmpi .sle (count cm) quota) (Scalar.cmpi .sle (count cl) quota)))))
    (andi (andi cl (cmpi .slt rl (broadcast S8x5000 quota)))
      (ori (cmpi .sge key (broadcast S8x5000 0#32)) (broadcast S8x5000 (Scalar.andi (Scalar.cmpi .sle (count cm) quota) (Scalar.cmpi .sle (count cl) quota)))))

/-- The lanes the kernel selects. -/
def rowMask (key idx : IVec S8x5000 32) (npos : BitVec 32) (cm cl : IVec S8x5000 1) : IVec S8x5000 1 :=
  if fewEnough npos cm cl = 1#1 then ori cm cl
  else ori (chosen key cm idx (Scalar.muli npos 3#32)) (chosen key cl idx (Scalar.muli npos 3#32))

theorem negSum_eq (x : FVec F S8x5000 .f32) (npos : BitVec 32) (cm cl : IVec S8x5000 1) :
    negSum x npos cm cl = maskedSum (rowMask (bitcastToInt x) k0_pay3 npos cm cl) x := by
  unfold negSum rowMask
  split <;> rfl

theorem refMask_apply (key : IVec S8x5000 32) (quota : BitVec 32) (cm cl : IVec S8x5000 1) (rm rl : IVec S8x5000 32) (i : S8x5000.Idx) :
    refMask key quota cm cl rm rl i
      = Scalar.ori (Scalar.andi (Scalar.andi (cm i) (Scalar.cmpi .slt (rm i) quota)) (Scalar.ori (Scalar.cmpi .sge (key i) 0#32) (Scalar.andi (Scalar.cmpi .sle (count cm) quota) (Scalar.cmpi .sle (count cl) quota))))
          (Scalar.andi (Scalar.andi (cl i) (Scalar.cmpi .slt (rl i) quota)) (Scalar.ori (Scalar.cmpi .sge (key i) 0#32) (Scalar.andi (Scalar.cmpi .sle (count cm) quota) (Scalar.cmpi .sle (count cl) quota)))) := rfl

/-! ## The masks agree -/

theorem ext_bit {x y : BitVec 1} (h : x = 1#1 ↔ y = 1#1) : x = y := by revert x y; decide

theorem fewEnough_iff (npos : BitVec 32) (cm cl : IVec S8x5000 1) :
    fewEnough npos cm cl = 1#1 ↔ Scalar.andi (Scalar.cmpi .sle (count cm) (Scalar.muli npos 3#32)) (Scalar.cmpi .sle (count cl) (Scalar.muli npos 3#32)) = 1#1 := by
  unfold fewEnough
  generalize Scalar.andi (Scalar.cmpi .sle (count cm) (Scalar.muli npos 3#32)) (Scalar.cmpi .sle (count cl) (Scalar.muli npos 3#32)) = b
  revert b; decide

section
variable {ι : Type} [Fintype ι]

/-- A candidate's rank depends on the candidates' keys and positions alone. -/
theorem rank_congr (cand : ι → Prop) [DecidablePred cand] (key key' idx idx' : ι → ℤ) (h : ∀ l, cand l → key l = key' l ∧ idx l = idx' l) (i : ι) (hi : cand i) :
    Select.rank cand key idx i = Select.rank cand key' idx' i := by
  unfold Select.rank
  refine congrArg Finset.card (Finset.filter_congr ?_)
  intro l _
  constructor
  · rintro ⟨h1, h2⟩
    refine ⟨h1, ?_⟩
    rw [← (h l h1).1, ← (h l h1).2, ← (h i hi).1, ← (h i hi).2]; exact h2
  · rintro ⟨h1, h2⟩
    refine ⟨h1, ?_⟩
    rw [(h l h1).1, (h l h1).2, (h i hi).1, (h i hi).2]; exact h2

end

section
variable (keyK keyR idx v1 : IVec S8x5000 32) (N : ℕ) (hN : N < 2 ^ 31)
  (hu : ∀ l l' : S8x5000.Idx, 0 ≤ (v1 l).toInt → v1 l' = v1 l → l' = l)

include hN hu in
/-- One region, when its candidates are few enough: every candidate is among the quota's first. -/
theorem region_few (cand : IVec S8x5000 1) (hc : ∀ l, cand l = 1#1 → keyK l = keyR l ∧ idx l = v1 l ∧ (v1 l).toNat < 20000)
    (hfew : #{l | cand l = 1#1} ≤ N) (i : S8x5000.Idx) :
    cand i = 1#1 ↔ cand i = 1#1 ∧ (rankOf v1 keyR cand i).toInt < (BitVec.ofNat 32 N).toInt := by
  refine ⟨fun h => ⟨h, ?_⟩, fun h => h.1⟩
  rw [toInt_rankOf v1 keyR cand hu (fun l hl => (hc l hl).2.2) i, toInt_ofNat_of_lt (by omega)]
  have := Select.rank_lt_card (fun l => cand l = 1#1) (fun l => (keyR l).toInt) (fun l => (v1 l).toInt) h
  exact_mod_cast lt_of_lt_of_le this hfew

include hN hu in
/-- One region otherwise. -/
theorem region_chosen (cand : IVec S8x5000 1) (hc : ∀ l, cand l = 1#1 → keyK l = keyR l ∧ idx l = v1 l ∧ (v1 l).toNat < 20000) (i : S8x5000.Idx) :
    chosen keyK cand idx (BitVec.ofNat 32 N) i = 1#1
      ↔ (cand i = 1#1 ∧ (rankOf v1 keyR cand i).toInt < (BitVec.ofNat 32 N).toInt) ∧ 0 ≤ (keyR i).toInt := by
  rw [chosen_iff keyK cand idx N hN _ i, toInt_rankOf v1 keyR cand hu (fun l hl => (hc l hl).2.2) i, toInt_ofNat_of_lt (by omega)]
  · constructor
    · rintro ⟨h1, h2, h3⟩
      rw [rank_congr _ _ (fun l => (keyR l).toInt) _ (fun l => (v1 l).toInt) (fun l hl => ⟨by rw [(hc l hl).1], by rw [(hc l hl).2.1]⟩) i h1] at h2
      exact ⟨⟨h1, by exact_mod_cast h2⟩, by rw [← (hc i h1).1]; exact h3⟩
    · rintro ⟨⟨h1, h2⟩, h3⟩
      refine ⟨h1, ?_, by rw [(hc i h1).1]; exact h3⟩
      rw [rank_congr _ _ (fun l => (keyR l).toInt) _ (fun l => (v1 l).toInt) (fun l hl => ⟨by rw [(hc l hl).1], by rw [(hc l hl).2.1]⟩) i h1]
      exact_mod_cast h2
  · intro l hl
    rw [(hc l hl).2.1]
    have h := (hc l hl).2.2
    rw [BitVec.toInt_eq_toNat_of_lt (by omega)]
    omega

include hN hu in
/-- The masks select the same lanes. -/
theorem masks_eq (npos : BitVec 32) (hq : Scalar.muli npos 3#32 = BitVec.ofNat 32 N) (cm cl : IVec S8x5000 1)
    (hm : ∀ l, cm l = 1#1 → keyK l = keyR l ∧ idx l = v1 l ∧ (v1 l).toNat < 20000)
    (hl : ∀ l, cl l = 1#1 → keyK l = keyR l ∧ idx l = v1 l ∧ (v1 l).toNat < 20000) (i : S8x5000.Idx) :
    rowMask keyK idx npos cm cl i = refMask keyR (Scalar.muli npos 3#32) cm cl (rankOf v1 keyR cm) (rankOf v1 keyR cl) i := by
  apply ext_bit
  rw [refMask_apply, or_iff, and_iff, and_iff, and_iff, and_iff, or_iff, ← fewEnough_iff, slt_iff, slt_iff, sge_iff]
  unfold rowMask
  rw [show (0#32).toInt = 0 from rfl]
  by_cases hf : fewEnough npos cm cl = 1#1
  · rw [if_pos hf, v_or, or_iff]
    have hf2 := (fewEnough_iff npos cm cl).1 hf
    rw [and_iff, sle_iff, sle_iff, toInt_count, toInt_count, hq, toInt_ofNat_of_lt (by omega)] at hf2
    have e1 := region_few keyK keyR idx v1 N hN hu cm hm (by exact_mod_cast hf2.1) i
    have e2 := region_few keyK keyR idx v1 N hN hu cl hl (by exact_mod_cast hf2.2) i
    rw [hq]
    constructor
    · rintro (h | h)
      · exact .inl ⟨e1.1 h, .inr hf⟩
      · exact .inr ⟨e2.1 h, .inr hf⟩
    · rintro (h | h)
      · exact .inl h.1.1
      · exact .inr h.1.1
  · rw [if_neg hf, v_or, or_iff, hq, region_chosen keyK keyR idx v1 N hN hu cm hm i, region_chosen keyK keyR idx v1 N hN hu cl hl i]
    constructor
    · rintro (h | h)
      · exact .inl ⟨h.1, .inl h.2⟩
      · exact .inr ⟨h.1, .inl h.2⟩
    · rintro (⟨h1, h2 | h2⟩ | ⟨h1, h2 | h2⟩)
      · exact .inl ⟨h1, h2⟩
      · exact absurd h2 hf
      · exact .inr ⟨h1, h2⟩
      · exact absurd h2 hf

end

/-- A lane the kernel selects is a candidate of one of the regions. -/
theorem rowMask_cand (key idx : IVec S8x5000 32) (N : ℕ) (hN : N < 2 ^ 31) (npos : BitVec 32) (hq : Scalar.muli npos 3#32 = BitVec.ofNat 32 N) (cm cl : IVec S8x5000 1)
    (hm : ∀ l, cm l = 1#1 → 0 ≤ (idx l).toInt ∧ (idx l).toInt < 32768) (hl : ∀ l, cl l = 1#1 → 0 ≤ (idx l).toInt ∧ (idx l).toInt < 32768) (i : S8x5000.Idx)
    (h : rowMask key idx npos cm cl i = 1#1) : cm i = 1#1 ∨ cl i = 1#1 := by
  unfold rowMask at h
  by_cases hf : fewEnough npos cm cl = 1#1
  · rw [if_pos hf, v_or, or_iff] at h; exact h
  · rw [if_neg hf, v_or, or_iff, hq, chosen_iff key cm idx N hN hm i, chosen_iff key cl idx N hN hl i] at h
    exact h.imp (fun h => h.1) (fun h => h.1)

/-! ## The rows agree -/

/-- The loss of one prior from the difference of its two scores. -/
def lossOf (d : FVec F S8x5000 .f32) : FVec F S8x5000 .f32 :=
  addf (maximumf d (broadcast S8x5000 (Scalar.ofBits .f32 0x00000000#32))) (log1p (exp (subf (broadcast S8x5000 (Scalar.ofBits .f32 0x00000000#32)) (absf d))))

/-- The loss at a lane depends on the difference there alone. -/
theorem lossOf_congr (d d' : FVec F S8x5000 .f32) (i : S8x5000.Idx) (h : d i = d' i) : lossOf d i = lossOf d' i := by
  show FloatOps.addf (FloatOps.maximumf (d i) _) (FloatOps.log1p (FloatOps.exp (FloatOps.subf _ (FloatOps.absf (d i))))) = FloatOps.addf (FloatOps.maximumf (d' i) _) (FloatOps.log1p (FloatOps.exp (FloatOps.subf _ (FloatOps.absf (d' i)))))
  rw [h]

theorem maskedSum_congr (p q : IVec S8x5000 1) (x y : FVec F S8x5000 .f32) (h : ∀ i, p i = q i) (hx : ∀ i, p i = 1#1 → x i = y i) : maskedSum p x = maskedSum q y := by
  have e : select p x (broadcast S8x5000 (Scalar.ofBits .f32 0x00000000#32)) = select q y (broadcast S8x5000 (Scalar.ofBits .f32 0x00000000#32)) := by
    funext i
    show Scalar.select (p i) (x i) _ = Scalar.select (q i) (y i) _
    rw [← h i]
    by_cases hp : p i = 1#1
    · rw [sel_pos hp, sel_pos hp, hx i hp]
    · rw [sel_neg hp, sel_neg hp]
  unfold maskedSum
  rw [e]

theorem pay17_eq (v14 : FVec F S8x5000 .f32) (v15 : IVec S8x5000 32) (v25 : BitVec 32) (y1 y2 y3 : Vec F S1x8x5000 .i32) (rm rl : IVec S8x5000 32) :
    Cert.Reference.Gen.k0_pay17 v14 v15 v25 (Cert.Reference.Gen.k0_pay8 y1 y2) (extractAt ![0, 0, 0] (Cert.Reference.Gen.k0_pay9 y1 y2) Cert.Reference.Gen.inpos_S1x1x1_p0_0_0)
        (Cert.Reference.Gen.k0_pay10 y1 y3) (Cert.Reference.Gen.k0_pay11 y1 y3) rm rl
      = maskedSum (refMask v15 (Scalar.muli v25 3#32) (Cert.Reference.Gen.k0_pay8 y1 y2) (Cert.Reference.Gen.k0_pay10 y1 y3) rm rl) v14 := by
  unfold Cert.Reference.Gen.k0_pay17 maskedSum refMask Cert.Reference.Gen.k0_pay9 Cert.Reference.Gen.k0_pay11 count
  rfl

/-- The box loss of each coordinate, from the locations, the targets and the weights. -/
def boxOf (x4 x5 x6 : Vec F S1x8x10000 .f32) : FVec F S8x10000 .f32 :=
  let dd : FVec F S8x10000 .f32 := absf (subf (shapeCast S8x10000 x4 shapeCasts_S1x8x10000_S8x10000) (shapeCast S8x10000 x5 shapeCasts_S1x8x10000_S8x10000))
  mulf (select (cmpf .olt dd (broadcast S8x10000 (Scalar.ofBits .f32 0x3F800000#32)))
      (mulf (mulf (broadcast S8x10000 (Scalar.ofBits .f32 0x3F000000#32)) dd) dd) (subf dd (broadcast S8x10000 (Scalar.ofBits .f32 0x3F000000#32))))
    (shapeCast S8x10000 x6 shapeCasts_S1x8x10000_S8x10000)

/-- The sum of a block of 8 by 10000. -/
def boxSum (x : FVec F S8x10000 .f32) : FVec F S1x1x1 .f32 :=
  shapeCast S1x1x1 (multiReduction .add [1, 2] S1 (shapeCast S1x8x10000 x shapeCasts_S8x10000_S1x8x10000) 0x00000000#32 reduces_S1x8x10000_S1 (.inl rfl) rfl) shapeCasts_S1_S1x1x1

theorem pay31_eq (x4 x5 x6 : Vec F S1x8x10000 .f32) : k0_pay31 x4 x5 x6 = boxSum (boxOf x4 x5 x6) := rfl

theorem pay2_eq (n : BitVec 32) (p q : F .f32) (y5 : Vec F S1x8x10000 .f32) :
    Cert.Reference.Gen.k0_pay2 n p q y5 = k0_pay1 n p q (boxSum (shapeCast S8x10000 y5 shapeCasts_S1x8x10000_S8x10000)) := rfl

theorem pay16_eq (x0 : Vec F S1x8x5000 .f32) (x1 : Vec F S1x8x5000 .i32) :
    k0_pay16 x0 x1 = maskedSum (k0_pay14 x1) (subf (lossOf (k0_pay12 x0)) (k0_pay12 x0)) := rfl

theorem rpay16_eq (y0 : Vec F S1x8x5000 .f32) (p : IVec S8x5000 1) :
    Cert.Reference.Gen.k0_pay16 (Cert.Reference.Gen.k0_pay3 y0) (Cert.Reference.Gen.k0_pay4 y0) p
      = maskedSum p (subf (lossOf (Cert.Reference.Gen.k0_pay3 y0)) (Cert.Reference.Gen.k0_pay3 y0)) := rfl

theorem pay13_eq (x0 : Vec F S1x8x5000 .f32) : k0_pay13 x0 = lossOf (k0_pay12 x0) := rfl

theorem rpay4_eq (y0 : Vec F S1x8x5000 .f32) : Cert.Reference.Gen.k0_pay4 y0 = lossOf (Cert.Reference.Gen.k0_pay3 y0) := rfl

theorem rpay5_eq (y0 : Vec F S1x8x5000 .f32) : Cert.Reference.Gen.k0_pay5 y0 = bitcastToInt (lossOf (Cert.Reference.Gen.k0_pay3 y0)) := rfl

/-- The candidates of the low region, as the kernel computes them. -/
def candLow (x1 x3 : Vec F S1x8x5000 .i32) : IVec S8x5000 1 := k0_pay20 (k0_pay14 x1) (k0_pay18 x3) k0_pay19

theorem rpay6_eq (x1 : Vec F S1x8x5000 .i32) : Cert.Reference.Gen.k0_pay6 x1 = k0_pay14 x1 := rfl

theorem rpay8_eq (x1 x2 : Vec F S1x8x5000 .i32) : Cert.Reference.Gen.k0_pay8 x1 x2 = k0_pay17 x1 x2 := rfl

theorem rpay10_eq (x1 x3 : Vec F S1x8x5000 .i32) : Cert.Reference.Gen.k0_pay10 x1 x3 = candLow x1 x3 := rfl

theorem npos_eq (x1 : Vec F S1x8x5000 .i32) : extractAt ![0, 0, 0] (k0_pay15 x1) inpos_S1x1x1_p0_0_0 = count (k0_pay14 x1) := rfl

theorem rnpos_eq (x1 : Vec F S1x8x5000 .i32) : extractAt ![0, 0, 0] (Cert.Reference.Gen.k0_pay7 x1) Cert.Reference.Gen.inpos_S1x1x1_p0_0_0 = count (k0_pay14 x1) := rfl

/-- One image's row is the same on both sides, when the lanes that are not a prior's own are in none of the masks (`E` holds
    at the priors' own lanes), and at the others both sides hold the same difference and the same position. -/
theorem row_eq (E : S8x5000.Idx → Prop) (x0 y0 : Vec F S1x8x5000 .f32) (x1 x2 x3 : Vec F S1x8x5000 .i32) (x4 x5 x6 y5 : Vec F S1x8x10000 .f32) (v0 : Vec F S8x5000 .i32)
    (h1 : ∀ i, k0_pay14 x1 i = 1#1 → E i) (h2 : ∀ i, k0_pay17 x1 x2 i = 1#1 → E i) (h3 : ∀ i, candLow x1 x3 i = 1#1 → E i)
    (hd : ∀ i, E i → k0_pay12 x0 i = Cert.Reference.Gen.k0_pay3 y0 i)
    (hidx : ∀ i, E i → k0_pay3 i = Cert.Reference.Gen.k0_pay1 v0 i ∧ (Cert.Reference.Gen.k0_pay1 v0 i).toNat < 20000)
    (hu : ∀ l l' : S8x5000.Idx, 0 ≤ (Cert.Reference.Gen.k0_pay1 v0 l).toInt → Cert.Reference.Gen.k0_pay1 v0 l' = Cert.Reference.Gen.k0_pay1 v0 l → l' = l)
    (hbox : shapeCast S8x10000 y5 shapeCasts_S1x8x10000_S8x10000 = boxOf x4 x5 x6) :
    rowPay x0 x1 x2 x3 x4 x5 x6 = Cert.Proof.Ref.refRow v0 y0 x1 x2 x3 y5 := by
  unfold rowPay Cert.Proof.Ref.refRow
  rw [pay17_eq, pay2_eq, rpay16_eq, pay16_eq, pay31_eq, hbox, negSum_eq, npos_eq, rnpos_eq, rpay6_eq, rpay8_eq, rpay10_eq, rpay4_eq, rpay5_eq, pay13_eq]
  rw [show k0_pay20 (k0_pay14 x1) (k0_pay18 x3) k0_pay19 = candLow x1 x3 from rfl]
  have hN : Scalar.muli (count (k0_pay14 x1)) 3#32 = BitVec.ofNat 32 (#{l | k0_pay14 x1 l = 1#1} * 3) := by
    rw [count_eq]; exact muli_ofNat _ _
  have hlt : #{l | k0_pay14 x1 l = 1#1} * 3 < 2 ^ 31 := by
    have := card_le (fun l => k0_pay14 x1 l = 1#1)
    omega
  have hl : ∀ i, E i → lossOf (k0_pay12 x0) i = lossOf (Cert.Reference.Gen.k0_pay3 y0) i := fun i hi => lossOf_congr _ _ i (hd i hi)
  have hk : ∀ i, E i → bitcastToInt (lossOf (k0_pay12 x0)) i = bitcastToInt (lossOf (Cert.Reference.Gen.k0_pay3 y0)) i := fun i hi => by
    exact congrArg _ (hl i hi)
  have hall : ∀ i, E i → bitcastToInt (lossOf (k0_pay12 x0)) i = bitcastToInt (lossOf (Cert.Reference.Gen.k0_pay3 y0)) i ∧ k0_pay3 i = Cert.Reference.Gen.k0_pay1 v0 i ∧ (Cert.Reference.Gen.k0_pay1 v0 i).toNat < 20000 :=
    fun i hi => ⟨hk i hi, hidx i hi⟩
  have hrange : ∀ i, E i → 0 ≤ (k0_pay3 i).toInt ∧ (k0_pay3 i).toInt < 32768 := fun i hi => by
    rw [(hidx i hi).1]
    have h := (hidx i hi).2
    rw [BitVec.toInt_eq_toNat_of_lt (by omega)]
    omega
  rw [maskedSum_congr (k0_pay14 x1) (k0_pay14 x1) (subf (lossOf (k0_pay12 x0)) (k0_pay12 x0)) (subf (lossOf (Cert.Reference.Gen.k0_pay3 y0)) (Cert.Reference.Gen.k0_pay3 y0)) (fun _ => rfl) (fun i hi => by
    show FloatOps.subf (lossOf (k0_pay12 x0) i) (k0_pay12 x0 i) = FloatOps.subf (lossOf (Cert.Reference.Gen.k0_pay3 y0) i) (Cert.Reference.Gen.k0_pay3 y0 i)
    rw [hl i (h1 i hi), hd i (h1 i hi)])]
  rw [maskedSum_congr (rowMask (bitcastToInt (lossOf (k0_pay12 x0))) k0_pay3 (count (k0_pay14 x1)) (k0_pay17 x1 x2) (candLow x1 x3)) _ (lossOf (k0_pay12 x0)) _
    (fun i => masks_eq _ _ _ (Cert.Reference.Gen.k0_pay1 v0) _ hlt hu (count (k0_pay14 x1)) hN _ _ (fun l h => hall l (h2 l h)) (fun l h => hall l (h3 l h)) i)
    (fun i hi => hl i ((rowMask_cand _ _ _ hlt _ hN _ _ (fun l h => hrange l (h2 l h)) (fun l h => hrange l (h3 l h)) i hi).elim (h2 i) (h3 i)))]

end Cert.Proof.Row

end
-- ==== Proof.RowRun.lean ====
/-
  The row kernel's launch: with the pipeline's proof data the body's run gives the launch (`run_main`), its arrays at the
  blocks put together, and the frame.
-/
module

public import proofs.«01_k».proof.Proof.RowStep
public import Idealize.ShloMosaic.Lib.Claim
public import proofs.«01_k».proof.Proof.Gen.Kernel.Launch
public import proofs.«01_k».proof.Proof.Gen.Kernel.Points
public import Idealize.ShloMosaic.Lib.Pipeline.FrameBody
public import Idealize.ShloMosaic.Lib.Pipeline.FrameSuffix
public import Idealize.ShloMosaic.Lib.Ring

@[expose] public section

set_option maxRecDepth 16384

noncomputable section

namespace Cert.Proof.Row

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data: the arrays as the region finds them; after the body each input's buffer at its block and the
    output's at `rowOut` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rowOut (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rowOut (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at a point: the inputs' buffers hold their blocks, so `kernel_run` applies. -/
theorem body_run (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (kernel_run c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs_row]
  exact triple_restated (body_run m c t) rfl .rfl fun _ => .rfl

set_option backward.isDefEq.respectTransparency.types false in
set_option maxHeartbeats 800000 in
/-- The launch, with every semaphore counter at zero at the end. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch: every array of the pipeline at what the proof data says, every other buffer as the later lines leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the arguments end unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Proof.Row

end
-- ==== Proof.RowValue.lean ====
/-
  What the kernel's program ends with: the arrays its region finds, as functions of the arguments; the array it leaves, row by
  row; and the two results, the later lines' function of that array.
-/
module

public import proofs.«01_k».proof.Proof.RowRun
public import proofs.«01_k».proof.Proof.RefStep
public import Idealize.ShloMosaic.Lib.Pipeline.Value
public import Idealize.ShloMosaic.Lib.StableHlo.Run
public import Idealize.ShloMosaic.Lib.ValueIdxCore

@[expose] public section

set_option maxRecDepth 16384

noncomputable section

namespace Cert.Proof.Row

open Cert.Kernel Cert.Kernel.Gen
open Idealize.ShloMosaic Idealize.ShloMosaic.TcCoe Idealize.ShloMosaic.ValueIdx
open Idealize.SL.Sem
open Idealize.ShloMosaic.Pipeline (Dat Cfg Window)
open Cert.Proof.Ref (image)

variable {F : FTy → Type} [BitOps F]

variable (m : (ℓ : Loc nD τ sig) → Buf (Elt F) ℓ) (ρ : Dev nD → PrngReg)

/-! ## The arrays the region finds -/

/-- One at the even places of a pair, as words. -/
def evenWord : IVec S2 32 := extui 32 (cmpi .eq (iotaInDim S2 32 0) (broadcastInDim S2 ![] bcast_S_S2 (constantI S_ 32 0#32))) natLt_1_32

/-- A flag array, its entries at the even lanes and zero at the odd ones. -/
def spread (a : IVec S32x20000 32) : IVec S32x8x5000 32 :=
  shapeCast S32x8x5000 (muli (broadcastInDim S32x20000x2 ![0, 1, 2] bcast_S32x20000x1_S32x20000x2_0_1_2 (broadcastInDim S32x20000x1 ![0, 1] bcast_S32x20000_S32x20000x1_0_1 a))
    (broadcastInDim S32x20000x2 ![0, 1, 2] bcast_S1x1x2_S32x20000x2_0_1_2 (broadcastInDim S1x1x2 ![2] bcast_S2_S1x1x2_2 evenWord))) shapeCasts_S32x20000x2_S32x8x5000

/-- The weights of the coordinates: one for a prior with an object. -/
def weights (a : IVec S32x20000 32) : FVec F S32x20000x4 .f32 :=
  broadcastInDim S32x20000x4 ![0, 1, 2] bcast_S32x20000x1_S32x20000x4_0_1_2 (broadcastInDim S32x20000x1 ![0, 1] bcast_S32x20000_S32x20000x1_0_1
    (uitofp .f32 (cmpi .sgt a (broadcastInDim S32x20000 ![] bcast_S_S32x20000 (constantI S_ 32 0#32)))))

theorem V_v3 (c : Dev nD) : V m c main_v3 = shapeCast S32x8x5000 (m ((c : Thread nD τ).loc main_arg0)) shapeCasts_S32x20000x2_S32x8x5000 := by
  show StableHlo.after hostOps0 _ (Proc.devRef .tc main_v3) = _
  after_results
  rfl

theorem V_v12 (c : Dev nD) : V m c main_v12 = spread (m ((c : Thread nD τ).loc main_arg2)) := by
  show StableHlo.after hostOps0 _ (Proc.devRef .tc main_v12) = _
  after_results
  rfl

theorem V_v19 (c : Dev nD) : V m c main_v19 = spread (m ((c : Thread nD τ).loc main_arg3)) := by
  show StableHlo.after hostOps0 _ (Proc.devRef .tc main_v19) = _
  after_results
  rfl

theorem V_v26 (c : Dev nD) : V m c main_v26 = spread (m ((c : Thread nD τ).loc main_arg4)) := by
  show StableHlo.after hostOps0 _ (Proc.devRef .tc main_v26) = _
  after_results
  rfl

theorem V_v4 (c : Dev nD) : V m c main_v4 = shapeCast S32x8x10000 (m ((c : Thread nD τ).loc main_arg1)) shapeCasts_S32x20000x4_S32x8x10000 := by
  show StableHlo.after hostOps0 _ (Proc.devRef .tc main_v4) = _
  after_results
  rfl

theorem V_v5 (c : Dev nD) : V m c main_v5 = shapeCast S32x8x10000 (m ((c : Thread nD τ).loc main_arg5)) shapeCasts_S32x20000x4_S32x8x10000 := by
  show StableHlo.after hostOps0 _ (Proc.devRef .tc main_v5) = _
  after_results
  rfl

theorem V_v32 (c : Dev nD) : V m c main_v32 = shapeCast S32x8x10000 (weights (m ((c : Thread nD τ).loc main_arg2))) shapeCasts_S32x20000x4_S32x8x10000 := by
  show StableHlo.after hostOps0 _ (Proc.devRef .tc main_v32) = _
  after_results
  rfl

/-! ## The later lines -/

/-- The total over the images of one lane of the rows. -/
def total (off : Fin 3 → ℕ) (h : S32x1x128.Slices off S32x1x1) (x : FVec F S32x1x128 .f32) : FVec F S_ .f32 :=
  Host.reduceAdd (shapeCast S32 (extractStridedSlice S32x1x1 off x h) shapeCasts_S32x1x1_S32) (constant S_ .f32 0x00000000#32) reducesTo_S32_S_d0 h_S_

/-- The box loss of the rows, over the number of positives. -/
def boxResult (x : FVec F S32x1x128 .f32) : FVec F S_ .f32 :=
  Host.divf (total ![0, 0, 3] slices_S32x1x128_S32x1x1_0_0_3 x) (addf (total ![0, 0, 0] slices_S32x1x128_S32x1x1_0_0_0 x) (constant S_ .f32 0x358637BD#32))

/-- The object loss of the rows, over the number of positives. -/
def objResult (x : FVec F S32x1x128 .f32) : FVec F S_ .f32 :=
  Host.divf (total ![0, 0, 1] slices_S32x1x128_S32x1x1_0_0_1 x) (addf (total ![0, 0, 0] slices_S32x1x128_S32x1x1_0_0_0 x) (constant S_ .f32 0x358637BD#32))

/-- The array the region leaves. -/
abbrev final (c : Dev nD) : Buf (Elt F) ((c : Thread nD τ).loc main_v33) := (dats m 0 c).arrAt 7 cfg0.N

theorem tail_base (c : Dev nD) : Pipeline.withArrays cfg0.spec c (V0 m c) (fun w => (dats m 0 c).arrAt w cfg0.N) (Proc.devRef .tc main_v33) = final m c :=
  Pipeline.withArrays_arr cfg0.spec (by decide) c (V0 m c) (fun w => (dats m 0 c).arrAt w cfg0.N) 7

theorem tail_v45 (c : Dev nD) : Pipeline.afterTail₀ cfgs (dats m) 0 (V0 m) [hostOps1] c main_v45 = boxResult (final m c) := by
  rw [← tail_base]
  unfold Pipeline.afterTail₀
  show StableHlo.after hostOps1 _ (Proc.devRef .tc main_v45) = _
  after_results
  rfl

theorem tail_v41 (c : Dev nD) : Pipeline.afterTail₀ cfgs (dats m) 0 (V0 m) [hostOps1] c main_v41 = objResult (final m c) := by
  rw [← tail_base]
  unfold Pipeline.afterTail₀
  show StableHlo.after hostOps1 _ (Proc.devRef .tc main_v41) = _
  after_results
  rfl

/-! ## The blocks -/

/-- Grid point `t` as an image. -/
def img (t : Fin cfg0.N) : Fin 32 := ⟨t.val, lt_of_lt_of_eq t.isLt N_0⟩

theorem at0 : ∀ t : Fin cfg0.N, win0_0.index t (0 : Fin 3) = t.val ∧ win0_0.index t (1 : Fin 3) = 0 ∧ win0_0.index t (2 : Fin 3) = 0 :=
  (by decide +kernel : ∀ t : Fin grid0.N, _)

theorem emb0 (t : Fin cfg0.N) (j : S1x8x5000.Idx) : ((cfg0.win 0).blk t).view.emb j = (ix3 (img t) (j 1) (j 2) : S32x8x5000.Idx) := by
  obtain ⟨e0, e1, e2⟩ := at0 t
  have h0 : (j 0).val < 1 := (j 0).isLt
  funext a; apply Fin.ext
  match a with
  | ⟨0, _⟩ => show win0_0.index t (0 : Fin 3) * 1 + 1 * (j 0).val = t.val; omega
  | ⟨1, _⟩ => show win0_0.index t (1 : Fin 3) * 8 + 1 * (j 1).val = (j 1).val; omega
  | ⟨2, _⟩ => show win0_0.index t (2 : Fin 3) * 5000 + 1 * (j 2).val = (j 2).val; omega

theorem at1 : ∀ t : Fin cfg0.N, win0_1.index t (0 : Fin 3) = t.val ∧ win0_1.index t (1 : Fin 3) = 0 ∧ win0_1.index t (2 : Fin 3) = 0 :=
  (by decide +kernel : ∀ t : Fin grid0.N, _)

theorem emb1 (t : Fin cfg0.N) (j : S1x8x5000.Idx) : ((cfg0.win 1).blk t).view.emb j = (ix3 (img t) (j 1) (j 2) : S32x8x5000.Idx) := by
  obtain ⟨e0, e1, e2⟩ := at1 t
  have h0 : (j 0).val < 1 := (j 0).isLt
  funext a; apply Fin.ext
  match a with
  | ⟨0, _⟩ => show win0_1.index t (0 : Fin 3) * 1 + 1 * (j 0).val = t.val; omega
  | ⟨1, _⟩ => show win0_1.index t (1 : Fin 3) * 8 + 1 * (j 1).val = (j 1).val; omega
  | ⟨2, _⟩ => show win0_1.index t (2 : Fin 3) * 5000 + 1 * (j 2).val = (j 2).val; omega

theorem at2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb2 (t : Fin cfg0.N) (j : S1x8x5000.Idx) : ((cfg0.win 2).blk t).view.emb j = (ix3 (img t) (j 1) (j 2) : S32x8x5000.Idx) := by
  obtain ⟨e0, e1, e2⟩ := at2 t
  have h0 : (j 0).val < 1 := (j 0).isLt
  funext a; apply Fin.ext
  match a with
  | ⟨0, _⟩ => show win0_2.index t (0 : Fin 3) * 1 + 1 * (j 0).val = t.val; omega
  | ⟨1, _⟩ => show win0_2.index t (1 : Fin 3) * 8 + 1 * (j 1).val = (j 1).val; omega
  | ⟨2, _⟩ => show win0_2.index t (2 : Fin 3) * 5000 + 1 * (j 2).val = (j 2).val; omega

theorem at3 : ∀ t : Fin cfg0.N, win0_3.index t (0 : Fin 3) = t.val ∧ win0_3.index t (1 : Fin 3) = 0 ∧ win0_3.index t (2 : Fin 3) = 0 :=
  (by decide +kernel : ∀ t : Fin grid0.N, _)

theorem emb3 (t : Fin cfg0.N) (j : S1x8x5000.Idx) : ((cfg0.win 3).blk t).view.emb j = (ix3 (img t) (j 1) (j 2) : S32x8x5000.Idx) := by
  obtain ⟨e0, e1, e2⟩ := at3 t
  have h0 : (j 0).val < 1 := (j 0).isLt
  funext a; apply Fin.ext
  match a with
  | ⟨0, _⟩ => show win0_3.index t (0 : Fin 3) * 1 + 1 * (j 0).val = t.val; omega
  | ⟨1, _⟩ => show win0_3.index t (1 : Fin 3) * 8 + 1 * (j 1).val = (j 1).val; omega
  | ⟨2, _⟩ => show win0_3.index t (2 : Fin 3) * 5000 + 1 * (j 2).val = (j 2).val; omega

theorem at4 : ∀ t : Fin cfg0.N, win0_4.index t (0 : Fin 3) = t.val ∧ win0_4.index t (1 : Fin 3) = 0 ∧ win0_4.index t (2 : Fin 3) = 0 :=
  (by decide +kernel : ∀ t : Fin grid0.N, _)

theorem emb4 (t : Fin cfg0.N) (j : S1x8x10000.Idx) : ((cfg0.win 4).blk t).view.emb j = (ix3 (img t) (j 1) (j 2) : S32x8x10000.Idx) := by
  obtain ⟨e0, e1, e2⟩ := at4 t
  have h0 : (j 0).val < 1 := (j 0).isLt
  funext a; apply Fin.ext
  match a with
  | ⟨0, _⟩ => show win0_4.index t (0 : Fin 3) * 1 + 1 * (j 0).val = t.val; omega
  | ⟨1, _⟩ => show win0_4.index t (1 : Fin 3) * 8 + 1 * (j 1).val = (j 1).val; omega
  | ⟨2, _⟩ => show win0_4.index t (2 : Fin 3) * 10000 + 1 * (j 2).val = (j 2).val; omega

theorem at5 : ∀ t : Fin cfg0.N, win0_5.index t (0 : Fin 3) = t.val ∧ win0_5.index t (1 : Fin 3) = 0 ∧ win0_5.index t (2 : Fin 3) = 0 :=
  (by decide +kernel : ∀ t : Fin grid0.N, _)

theorem emb5 (t : Fin cfg0.N) (j : S1x8x10000.Idx) : ((cfg0.win 5).blk t).view.emb j = (ix3 (img t) (j 1) (j 2) : S32x8x10000.Idx) := by
  obtain ⟨e0, e1, e2⟩ := at5 t
  have h0 : (j 0).val < 1 := (j 0).isLt
  funext a; apply Fin.ext
  match a with
  | ⟨0, _⟩ => show win0_5.index t (0 : Fin 3) * 1 + 1 * (j 0).val = t.val; omega
  | ⟨1, _⟩ => show win0_5.index t (1 : Fin 3) * 8 + 1 * (j 1).val = (j 1).val; omega
  | ⟨2, _⟩ => show win0_5.index t (2 : Fin 3) * 10000 + 1 * (j 2).val = (j 2).val; omega

theorem at6 : ∀ t : Fin cfg0.N, win0_6.index t (0 : Fin 3) = t.val ∧ win0_6.index t (1 : Fin 3) = 0 ∧ win0_6.index t (2 : Fin 3) = 0 :=
  (by decide +kernel : ∀ t : Fin grid0.N, _)

theorem emb6 (t : Fin cfg0.N) (j : S1x8x10000.Idx) : ((cfg0.win 6).blk t).view.emb j = (ix3 (img t) (j 1) (j 2) : S32x8x10000.Idx) := by
  obtain ⟨e0, e1, e2⟩ := at6 t
  have h0 : (j 0).val < 1 := (j 0).isLt
  funext a; apply Fin.ext
  match a with
  | ⟨0, _⟩ => show win0_6.index t (0 : Fin 3) * 1 + 1 * (j 0).val = t.val; omega
  | ⟨1, _⟩ => show win0_6.index t (1 : Fin 3) * 8 + 1 * (j 1).val = (j 1).val; omega
  | ⟨2, _⟩ => show win0_6.index t (2 : Fin 3) * 10000 + 1 * (j 2).val = (j 2).val; omega

theorem at7 : ∀ t : Fin cfg0.N, win0_7.index t (0 : Fin 3) = t.val ∧ win0_7.index t (1 : Fin 3) = 0 ∧ win0_7.index t (2 : Fin 3) = 0 :=
  (by decide +kernel : ∀ t : Fin grid0.N, _)

theorem emb7 (t : Fin cfg0.N) (j : S1x1x128.Idx) : ((cfg0.win 7).blk t).view.emb j = (ix3 (img t) (j 1) (j 2) : S32x1x128.Idx) := by
  obtain ⟨e0, e1, e2⟩ := at7 t
  have h0 : (j 0).val < 1 := (j 0).isLt
  funext a; apply Fin.ext
  match a with
  | ⟨0, _⟩ => show win0_7.index t (0 : Fin 3) * 1 + 1 * (j 0).val = t.val; omega
  | ⟨1, _⟩ => show win0_7.index t (1 : Fin 3) * 1 + 1 * (j 1).val = (j 1).val; omega
  | ⟨2, _⟩ => show win0_7.index t (2 : Fin 3) * 128 + 1 * (j 2).val = (j 2).val; omega

theorem iblk0_eq (c : Dev nD) (t : Fin cfg0.N) : iblk m c 0 t = image (V m c main_v3) (img t) := by
  funext j; show V m c main_v3 (((cfg0.win 0).blk t).view.emb j) = V m c main_v3 _; rw [emb0]

theorem iblk1_eq (c : Dev nD) (t : Fin cfg0.N) : iblk m c 1 t = image (V m c main_v12) (img t) := by
  funext j; show V m c main_v12 (((cfg0.win 1).blk t).view.emb j) = V m c main_v12 _; rw [emb1]

theorem iblk2_eq (c : Dev nD) (t : Fin cfg0.N) : iblk m c 2 t = image (V m c main_v19) (img t) := by
  funext j; show V m c main_v19 (((cfg0.win 2).blk t).view.emb j) = V m c main_v19 _; rw [emb2]

theorem iblk3_eq (c : Dev nD) (t : Fin cfg0.N) : iblk m c 3 t = image (V m c main_v26) (img t) := by
  funext j; show V m c main_v26 (((cfg0.win 3).blk t).view.emb j) = V m c main_v26 _; rw [emb3]

theorem iblk4_eq (c : Dev nD) (t : Fin cfg0.N) : iblk m c 4 t = image (V m c main_v4) (img t) := by
  funext j; show V m c main_v4 (((cfg0.win 4).blk t).view.emb j) = V m c main_v4 _; rw [emb4]

theorem iblk5_eq (c : Dev nD) (t : Fin cfg0.N) : iblk m c 5 t = image (V m c main_v5) (img t) := by
  funext j; show V m c main_v5 (((cfg0.win 5).blk t).view.emb j) = V m c main_v5 _; rw [emb5]

theorem iblk6_eq (c : Dev nD) (t : Fin cfg0.N) : iblk m c 6 t = image (V m c main_v32) (img t) := by
  funext j; show V m c main_v32 (((cfg0.win 6).blk t).view.emb j) = V m c main_v32 _; rw [emb6]

/-! ## The array the region leaves -/

theorem hz3 : (![0, 0, 0] : Fin 3 → Nat) = fun _ => 0 := funext fun a => by fin_cases a <;> rfl

/-- The body's output block is its row. -/
theorem rowOut_eq (x0 : Vec F S1x8x5000 .f32) (x1 x2 x3 : Vec F S1x8x5000 .i32) (x4 x5 x6 : Vec F S1x8x10000 .f32) :
    rowOut x0 x1 x2 x3 x4 x5 x6 = rowPay x0 x1 x2 x3 x4 x5 x6 := by
  unfold rowOut
  rw [View.canon_unit_zero hz3, View.ld_unit_zero hz3, View.ld_unit_zero hz3, View.ld_unit_zero hz3, View.ld_unit_zero hz3,
    View.ld_unit_zero hz3, View.ld_unit_zero hz3, View.ld_unit_zero hz3]

/-- The rows of all the images. -/
def rows (x0 : FVec F S32x8x5000 .f32) (x1 x2 x3 : IVec S32x8x5000 32) (x4 x5 x6 : FVec F S32x8x10000 .f32) : FVec F S32x1x128 .f32 :=
  fun y => rowPay (image (Val := Elt F) (e := .f32) x0 (y 0)) (image (Val := Elt F) (e := .i32) x1 (y 0)) (image (Val := Elt F) (e := .i32) x2 (y 0)) (image (Val := Elt F) (e := .i32) x3 (y 0))
    (image (Val := Elt F) (e := .f32) x4 (y 0)) (image (Val := Elt F) (e := .f32) x5 (y 0)) (image (Val := Elt F) (e := .f32) x6 (y 0)) (ix3 0 (y 1) (y 2))

theorem flushed_eq (c : Dev nD) (t : Fin cfg0.N) :
    (dats m 0 c).flushed 7 t = ((cfg0.win 7).blk t).view.read (Elt F) (rows (V m c main_v3) (V m c main_v12) (V m c main_v19) (V m c main_v26) (V m c main_v4) (V m c main_v5) (V m c main_v32)) := by
  show (cfg0.win 7).cut (grid0.coords t) ((dats m 0 c).after 7 t) = _
  rw [after_7, rowOut_eq, iblk0_eq, iblk1_eq, iblk2_eq, iblk3_eq, iblk4_eq, iblk5_eq, iblk6_eq]
  funext j
  show rowPay _ _ _ _ _ _ _ j = rows _ _ _ _ _ _ _ (((cfg0.win 7).blk t).view.emb j)
  rw [emb7]
  unfold rows
  have hj : j = (ix3 0 (j 1) (j 2) : S1x1x128.Idx) := by
    funext a; apply Fin.ext
    match a with
    | ⟨0, _⟩ => show (j 0).val = 0; have h0 : (j 0).val < 1 := (j 0).isLt; omega
    | ⟨1, _⟩ => rfl
    | ⟨2, _⟩ => rfl
  exact congrArg (rowPay _ _ _ _ _ _ _) hj

theorem cover (i : S32x1x128.Idx) : ∃ t : Fin cfg0.N, (cfg0.win 7).flush t = true ∧ i ∈ ((cfg0.win 7).blk t).view.set := by
  have h0 : (i 0).val < 32 := (i 0).isLt
  refine ⟨⟨(i 0).val, lt_of_lt_of_eq h0 N_0.symm⟩, flush0_7 _, ?_⟩
  have h := ((cfg0.win 7).blk (⟨(i 0).val, lt_of_lt_of_eq h0 N_0.symm⟩ : Fin cfg0.N)).view.emb_mem_set (ix3 0 (i 1) (i 2) : S1x1x128.Idx)
  rw [emb7] at h
  have e : (ix3 (img ⟨(i 0).val, lt_of_lt_of_eq h0 N_0.symm⟩) ((ix3 0 (i 1) (i 2) : S1x1x128.Idx) 1) ((ix3 0 (i 1) (i 2) : S1x1x128.Idx) 2) : S32x1x128.Idx) = i := by
    funext a; apply Fin.ext
    match a with
    | ⟨0, _⟩ => rfl
    | ⟨1, _⟩ => rfl
    | ⟨2, _⟩ => rfl
  rwa [e] at h

/-- The array the region leaves: the rows of the images. -/
theorem final_eq (c : Dev nD) : final m c = rows (V m c main_v3) (V m c main_v12) (V m c main_v19) (V m c main_v26) (V m c main_v4) (V m c main_v5) (V m c main_v32) :=
  (dats m 0 c).arrAt_eq_of_cover 7 _ (fun t _ => flushed_eq m c t) cover

end Cert.Proof.Row

end
-- ==== Proof.RefRun.lean ====
/-
  The reference's launch: with the pipeline's proof data the body's run gives the launch (`run_main`), its arrays at the
  images put together, and the frame.
-/
module

public import proofs.«01_k».proof.Proof.RefStep
public import Idealize.ShloMosaic.Lib.Claim
public import proofs.«01_k».proof.Proof.Gen.Reference.Launch
public import proofs.«01_k».proof.Proof.Gen.Reference.Points
public import Idealize.ShloMosaic.Lib.Pipeline.FrameBody
public import Idealize.ShloMosaic.Lib.Pipeline.FrameSuffix
public import Idealize.ShloMosaic.Lib.Ring

@[expose] public section

set_option maxRecDepth 16384

noncomputable section

namespace Cert.Proof.Ref

open Cert.Reference Cert.Reference.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data: the arrays as the region finds them; after the body each input's buffer at its block and the
    output's at `refOut` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => refOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = refOut (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns there. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at a point: the inputs' buffers hold their blocks, so `kernel_run` applies. -/
theorem body_run (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_run c _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs_ref (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs_ref]
  exact triple_restated (body_run m c t) rfl .rfl fun _ => .rfl

set_option backward.isDefEq.respectTransparency.types false in
set_option maxHeartbeats 800000 in
/-- The launch, with every semaphore counter at zero at the end. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The launch: every array of the pipeline at what the proof data says, every other buffer as the later lines leave it. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- The frame: the arguments end unchanged and every counter at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

end Cert.Proof.Ref

end
-- ==== Proof.RefValue.lean ====
/-
  What the reference's program ends with: the arrays its region finds, as functions of the arguments; the array it leaves, image
  by image; and the two results, the later lines' function of that array.
-/
module

public import proofs.«01_k».proof.Proof.RefRun
public import Idealize.ShloMosaic.Lib.Pipeline.Value
public import Idealize.ShloMosaic.Lib.StableHlo.Run
public import Idealize.ShloMosaic.Lib.ValueIdxCore

@[expose] public section

set_option maxRecDepth 16384

noncomputable section

namespace Cert.Proof.Ref

open Cert.Reference Cert.Reference.Gen
open Idealize.ShloMosaic Idealize.ShloMosaic.TcCoe Idealize.ShloMosaic.ValueIdx
open Idealize.SL.Sem
open Idealize.ShloMosaic.Pipeline (Dat Cfg Window)

variable {F : FTy → Type} [BitOps F]

variable (m : (ℓ : Loc nD τ sig) → Buf (Elt F) ℓ) (ρ : Dev nD → PrngReg)

/-! ## The arrays the region finds -/

/-- Two arrays side by side, the first at the even lanes and the second at the odd ones. -/
def slots {α : Type} (a b : S32x20000.Idx → α) : S32x8x5000.Idx → α :=
  shapeCast S32x8x5000 (concatenate S32x20000x2 2 [⟨S32x20000x1, broadcastInDim S32x20000x1 ![0, 1] bcast_S32x20000_S32x20000x1_0_1 a⟩, ⟨S32x20000x1, broadcastInDim S32x20000x1 ![0, 1] bcast_S32x20000_S32x20000x1_0_1 b⟩] concatenates_S32x20000x1_S32x20000x1_S32x20000x2_d2) shapeCasts_S32x20000x2_S32x8x5000

/-- Second score less the first. -/
def margin (a : FVec F S32x20000x2 .f32) : FVec F S32x20000 .f32 :=
  subf (shapeCast S32x20000 (extractStridedSlice S32x20000x1 ![0, 0, 1] a slices_S32x20000x2_S32x20000x1_0_0_1) shapeCasts_S32x20000x1_S32x20000)
    (shapeCast S32x20000 (extractStridedSlice S32x20000x1 ![0, 0, 0] a slices_S32x20000x2_S32x20000x1_0_0_0) shapeCasts_S32x20000x1_S32x20000)

/-- Zero everywhere. -/
def zeros : IVec S32x20000 32 := broadcastInDim S32x20000 ![] bcast_S_S32x20000 (constantI S_ 32 0#32)

/-- The priors' numbers at the even lanes, minus one at the odd ones. -/
def numbers : IVec S8x5000 32 :=
  shapeCast S8x5000 (concatenate S20000x2 1 [⟨S20000x1, broadcastInDim S20000x1 ![0] bcast_S20000_S20000x1_0 (iotaInDim S20000 32 0)⟩, ⟨S20000x1, broadcastInDim S20000x1 ![0] bcast_S20000_S20000x1_0 (broadcastInDim S20000 ![] bcast_S_S20000 (constantI S_ 32 4294967295#32))⟩] concatenates_S20000x1_S20000x1_S20000x2_d1) shapeCasts_S20000x2_S8x5000

/-- The smooth distance of each coordinate, weighted by whether the prior has an object. -/
def boxes (a b : FVec F S32x20000x4 .f32) (o : IVec S32x20000 32) : FVec F S32x20000x4 .f32 :=
  mulf (select (cmpf .olt (Host.absf (subf a b)) (broadcastInDim S32x20000x4 ![] bcast_S_S32x20000x4 (constant S_ .f32 0x3F800000#32)))
      (mulf (mulf (broadcastInDim S32x20000x4 ![] bcast_S_S32x20000x4 (constant S_ .f32 0x3F000000#32)) (Host.absf (subf a b))) (Host.absf (subf a b)))
      (subf (Host.absf (subf a b)) (broadcastInDim S32x20000x4 ![] bcast_S_S32x20000x4 (constant S_ .f32 0x3F000000#32))))
    (broadcastInDim S32x20000x4 ![0, 1, 2] bcast_S32x20000x1_S32x20000x4_0_1_2 (broadcastInDim S32x20000x1 ![0, 1] bcast_S32x20000_S32x20000x1_0_1 (uitofp .f32 (cmpi .sgt o zeros))))

theorem V_v32 (c : Dev nD) : V m c main_v32 = slots (margin (m ((c : Thread nD τ).loc main_arg0))) (margin (m ((c : Thread nD τ).loc main_arg0))) := by
  show StableHlo.after (List.flatten [hostOps0, hostOps0_1, hostOps0_2]) _ (Proc.devRef .tc main_v32) = _
  simp only [List.flatten_cons, List.flatten_nil, List.cons_append, List.nil_append, List.append_nil]
  after_results
  rfl

theorem V_v36 (c : Dev nD) : V m c main_v36 = slots (m ((c : Thread nD τ).loc main_arg2)) zeros := by
  show StableHlo.after (List.flatten [hostOps0, hostOps0_1, hostOps0_2]) _ (Proc.devRef .tc main_v36) = _
  simp only [List.flatten_cons, List.flatten_nil, List.cons_append, List.nil_append, List.append_nil]
  after_results
  rfl

theorem V_v40 (c : Dev nD) : V m c main_v40 = slots (m ((c : Thread nD τ).loc main_arg3)) zeros := by
  show StableHlo.after (List.flatten [hostOps0, hostOps0_1, hostOps0_2]) _ (Proc.devRef .tc main_v40) = _
  simp only [List.flatten_cons, List.flatten_nil, List.cons_append, List.nil_append, List.append_nil]
  after_results
  rfl

theorem V_v44 (c : Dev nD) : V m c main_v44 = slots (m ((c : Thread nD τ).loc main_arg4)) zeros := by
  show StableHlo.after (List.flatten [hostOps0, hostOps0_1, hostOps0_2]) _ (Proc.devRef .tc main_v44) = _
  simp only [List.flatten_cons, List.flatten_nil, List.cons_append, List.nil_append, List.append_nil]
  after_results
  rfl

theorem V_v11 (c : Dev nD) : V m c main_v11 = numbers := by
  show StableHlo.after (List.flatten [hostOps0, hostOps0_1, hostOps0_2]) _ (Proc.devRef .tc main_v11) = _
  simp only [List.flatten_cons, List.flatten_nil, List.cons_append, List.nil_append, List.append_nil]
  after_results
  rfl

theorem V_v28 (c : Dev nD) : V m c main_v28 = shapeCast S32x8x10000 (boxes (m ((c : Thread nD τ).loc main_arg1)) (m ((c : Thread nD τ).loc main_arg5)) (m ((c : Thread nD τ).loc main_arg2))) shapeCasts_S32x20000x4_S32x8x10000 := by
  show StableHlo.after (List.flatten [hostOps0, hostOps0_1, hostOps0_2]) _ (Proc.devRef .tc main_v28) = _
  simp only [List.flatten_cons, List.flatten_nil, List.cons_append, List.nil_append, List.append_nil]
  after_results
  rfl

/-! ## The later lines -/

/-- The total over the images of one lane of the rows. -/
def total (off : Fin 3 → ℕ) (h : S32x1x128.Slices off S32x1x1) (x : FVec F S32x1x128 .f32) : FVec F S_ .f32 :=
  Host.reduceAdd (shapeCast S32 (extractStridedSlice S32x1x1 off x h) shapeCasts_S32x1x1_S32) (constant S_ .f32 0x00000000#32) reducesTo_S32_S_d0 h_S_

/-- The box loss of the rows, over the number of positives. -/
def boxResult (x : FVec F S32x1x128 .f32) : FVec F S_ .f32 :=
  Host.divf (total ![0, 0, 3] slices_S32x1x128_S32x1x1_0_0_3 x) (addf (total ![0, 0, 0] slices_S32x1x128_S32x1x1_0_0_0 x) (constant S_ .f32 0x358637BD#32))

/-- The object loss of the rows, over the number of positives. -/
def objResult (x : FVec F S32x1x128 .f32) : FVec F S_ .f32 :=
  Host.divf (total ![0, 0, 1] slices_S32x1x128_S32x1x1_0_0_1 x) (addf (total ![0, 0, 0] slices_S32x1x128_S32x1x1_0_0_0 x) (constant S_ .f32 0x358637BD#32))

/-- The array the region leaves. -/
abbrev final (c : Dev nD) : Buf (Elt F) ((c : Thread nD τ).loc main_v45) := (dats m 0 c).arrAt 6 cfg0.N

theorem tail_base (c : Dev nD) : Pipeline.withArrays cfg0.spec c (V0 m c) (fun w => (dats m 0 c).arrAt w cfg0.N) (Proc.devRef .tc main_v45) = final m c :=
  Pipeline.withArrays_arr cfg0.spec (by decide) c (V0 m c) (fun w => (dats m 0 c).arrAt w cfg0.N) 6

theorem tail_v53 (c : Dev nD) : Pipeline.afterTail₀ cfgs (dats m) 0 (V0 m) [hostOps1] c main_v53 = boxResult (final m c) := by
  rw [← tail_base]
  unfold Pipeline.afterTail₀
  show StableHlo.after hostOps1 _ (Proc.devRef .tc main_v53) = _
  after_results
  rfl

theorem tail_v57 (c : Dev nD) : Pipeline.afterTail₀ cfgs (dats m) 0 (V0 m) [hostOps1] c main_v57 = objResult (final m c) := by
  rw [← tail_base]
  unfold Pipeline.afterTail₀
  show StableHlo.after hostOps1 _ (Proc.devRef .tc main_v57) = _
  after_results
  rfl

/-! ## The blocks -/

theorem at0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (j : S32x8x5000.Idx) : ((cfg0.win 0).blk t).view.emb j = j := by
  obtain ⟨e0, e1, e2⟩ := at0 t
  funext a; apply Fin.ext
  match a with
  | ⟨0, _⟩ => show win0_0.index t (0 : Fin 3) * 32 + 1 * (j 0).val = (j 0).val; omega
  | ⟨1, _⟩ => show win0_0.index t (1 : Fin 3) * 8 + 1 * (j 1).val = (j 1).val; omega
  | ⟨2, _⟩ => show win0_0.index t (2 : Fin 3) * 5000 + 1 * (j 2).val = (j 2).val; omega

theorem at1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (j : S32x8x5000.Idx) : ((cfg0.win 1).blk t).view.emb j = j := by
  obtain ⟨e0, e1, e2⟩ := at1 t
  funext a; apply Fin.ext
  match a with
  | ⟨0, _⟩ => show win0_1.index t (0 : Fin 3) * 32 + 1 * (j 0).val = (j 0).val; omega
  | ⟨1, _⟩ => show win0_1.index t (1 : Fin 3) * 8 + 1 * (j 1).val = (j 1).val; omega
  | ⟨2, _⟩ => show win0_1.index t (2 : Fin 3) * 5000 + 1 * (j 2).val = (j 2).val; omega

theorem at2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (j : S32x8x5000.Idx) : ((cfg0.win 2).blk t).view.emb j = j := by
  obtain ⟨e0, e1, e2⟩ := at2 t
  funext a; apply Fin.ext
  match a with
  | ⟨0, _⟩ => show win0_2.index t (0 : Fin 3) * 32 + 1 * (j 0).val = (j 0).val; omega
  | ⟨1, _⟩ => show win0_2.index t (1 : Fin 3) * 8 + 1 * (j 1).val = (j 1).val; omega
  | ⟨2, _⟩ => show win0_2.index t (2 : Fin 3) * 5000 + 1 * (j 2).val = (j 2).val; omega

theorem at3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (j : S32x8x5000.Idx) : ((cfg0.win 3).blk t).view.emb j = j := by
  obtain ⟨e0, e1, e2⟩ := at3 t
  funext a; apply Fin.ext
  match a with
  | ⟨0, _⟩ => show win0_3.index t (0 : Fin 3) * 32 + 1 * (j 0).val = (j 0).val; omega
  | ⟨1, _⟩ => show win0_3.index t (1 : Fin 3) * 8 + 1 * (j 1).val = (j 1).val; omega
  | ⟨2, _⟩ => show win0_3.index t (2 : Fin 3) * 5000 + 1 * (j 2).val = (j 2).val; omega

theorem at4 : ∀ t : Fin cfg0.N, win0_4.index t (0 : Fin 2) = 0 ∧ win0_4.index t (1 : Fin 2) = 0 :=
  (by decide +kernel : ∀ t : Fin grid0.N, _)

theorem emb4 (t : Fin cfg0.N) (j : S8x5000.Idx) : ((cfg0.win 4).blk t).view.emb j = j := by
  obtain ⟨e0, e1⟩ := at4 t
  funext a; apply Fin.ext
  match a with
  | ⟨0, _⟩ => show win0_4.index t (0 : Fin 2) * 8 + 1 * (j 0).val = (j 0).val; omega
  | ⟨1, _⟩ => show win0_4.index t (1 : Fin 2) * 5000 + 1 * (j 1).val = (j 1).val; omega

theorem at5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (j : S32x8x10000.Idx) : ((cfg0.win 5).blk t).view.emb j = j := by
  obtain ⟨e0, e1, e2⟩ := at5 t
  funext a; apply Fin.ext
  match a with
  | ⟨0, _⟩ => show win0_5.index t (0 : Fin 3) * 32 + 1 * (j 0).val = (j 0).val; omega
  | ⟨1, _⟩ => show win0_5.index t (1 : Fin 3) * 8 + 1 * (j 1).val = (j 1).val; omega
  | ⟨2, _⟩ => show win0_5.index t (2 : Fin 3) * 10000 + 1 * (j 2).val = (j 2).val; omega

theorem at6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (j : S32x1x128.Idx) : ((cfg0.win 6).blk t).view.emb j = j := by
  obtain ⟨e0, e1, e2⟩ := at6 t
  funext a; apply Fin.ext
  match a with
  | ⟨0, _⟩ => show win0_6.index t (0 : Fin 3) * 32 + 1 * (j 0).val = (j 0).val; omega
  | ⟨1, _⟩ => show win0_6.index t (1 : Fin 3) * 1 + 1 * (j 1).val = (j 1).val; omega
  | ⟨2, _⟩ => show win0_6.index t (2 : Fin 3) * 128 + 1 * (j 2).val = (j 2).val; omega

theorem iblk0_eq (c : Dev nD) (t : Fin cfg0.N) : iblk m c 0 t = V m c main_v32 := by
  funext j; show V m c main_v32 (((cfg0.win 0).blk t).view.emb j) = V m c main_v32 j; rw [emb0]

theorem iblk1_eq (c : Dev nD) (t : Fin cfg0.N) : iblk m c 1 t = V m c main_v36 := by
  funext j; show V m c main_v36 (((cfg0.win 1).blk t).view.emb j) = V m c main_v36 j; rw [emb1]

theorem iblk2_eq (c : Dev nD) (t : Fin cfg0.N) : iblk m c 2 t = V m c main_v40 := by
  funext j; show V m c main_v40 (((cfg0.win 2).blk t).view.emb j) = V m c main_v40 j; rw [emb2]

theorem iblk3_eq (c : Dev nD) (t : Fin cfg0.N) : iblk m c 3 t = V m c main_v44 := by
  funext j; show V m c main_v44 (((cfg0.win 3).blk t).view.emb j) = V m c main_v44 j; rw [emb3]

theorem iblk4_eq (c : Dev nD) (t : Fin cfg0.N) : iblk m c 4 t = V m c main_v11 := by
  funext j; show V m c main_v11 (((cfg0.win 4).blk t).view.emb j) = V m c main_v11 j; rw [emb4]

theorem iblk5_eq (c : Dev nD) (t : Fin cfg0.N) : iblk m c 5 t = V m c main_v28 := by
  funext j; show V m c main_v28 (((cfg0.win 5).blk t).view.emb j) = V m c main_v28 j; rw [emb5]

/-! ## The array the region leaves -/

theorem flushed_eq (c : Dev nD) (t : Fin cfg0.N) :
    (dats m 0 c).flushed 6 t = ((cfg0.win 6).blk t).view.read (Elt F) (refOut (V m c main_v32) (V m c main_v36) (V m c main_v40) (V m c main_v44) (V m c main_v11) (V m c main_v28)) := by
  show (cfg0.win 6).cut (grid0.coords t) ((dats m 0 c).after 6 t) = _
  rw [after_6, iblk0_eq, iblk1_eq, iblk2_eq, iblk3_eq, iblk4_eq, iblk5_eq]
  funext j
  show refOut _ _ _ _ _ _ j = refOut _ _ _ _ _ _ (((cfg0.win 6).blk t).view.emb j)
  rw [emb6]

theorem cover (i : S32x1x128.Idx) : ∃ t : Fin cfg0.N, (cfg0.win 6).flush t = true ∧ i ∈ ((cfg0.win 6).blk t).view.set :=
  ⟨t0_0, by decide, by
    have h := ((cfg0.win 6).blk t0_0).view.emb_mem_set i; rwa [emb6] at h⟩

/-- The array the region leaves: the images' rows. -/
theorem final_eq (c : Dev nD) : final m c = refOut (V m c main_v32) (V m c main_v36) (V m c main_v40) (V m c main_v44) (V m c main_v11) (V m c main_v28) :=
  (dats m 0 c).arrAt_eq_of_cover 6 _ (fun t _ => flushed_eq m c t) cover

end Cert.Proof.Ref

end
-- ==== Proof.Agree.lean ====
/-
  The two programs' arrays agree: read at an index, the arrays their regions find hold the same values at the even lanes, and
  at the odd lanes no mask selects anything. So the arrays they leave are equal, row by row.
-/
module

public import proofs.«01_k».proof.Proof.RowEq
public import proofs.«01_k».proof.Proof.RowValue
public import proofs.«01_k».proof.Proof.RefValue
public import Idealize.ShloMosaic.Lib.KernelVsHost

@[expose] public section

set_option maxRecDepth 16384

noncomputable section

namespace Cert.Proof.Row

open Cert.Kernel Cert.Kernel.Gen
open Idealize.ShloMosaic Idealize.ShloMosaic.TcCoe Idealize.ShloMosaic.ValueIdx
open Idealize.SL.Sem
open Idealize.ShloMosaic.WordCmp
open Cert.Proof.Ref (image slots margin zeros numbers boxes)

/-! ## Layout -/

/-- The prior whose lanes are `2 p` and `2 p + 1` of row `r`. -/
def prior (r : Fin 8) (l : Fin 5000) : Fin 20000 := ⟨r.val * 2500 + l.val / 2, by omega⟩

/-- The place of a lane in its pair. -/
def place (l : Fin 5000) : Fin 2 := ⟨l.val % 2, by omega⟩

/-- Pairs laid out as lanes. -/
theorem lanes_at {α : Type} (x : S32x20000x2.Idx → α) (h : S32x20000x2.ShapeCasts S32x8x5000) (b : Fin 32) (r : Fin 8) (l : Fin 5000) :
    shapeCast S32x8x5000 x h (ix3 b r l) = x (ix3 b (prior r l) (place l)) := by
  refine shapeCast_apply x h _ _ ?_
  rw [Shape.rowMajor_val_three, Shape.rowMajor_val_three]
  show (b.val * 20000 + (r.val * 2500 + l.val / 2)) * 2 + l.val % 2 = (b.val * 8 + r.val) * 5000 + l.val
  omega

theorem lanes2_at {α : Type} (x : Cert.Reference.S20000x2.Idx → α) (h : Cert.Reference.S20000x2.ShapeCasts S8x5000) (r : Fin 8) (l : Fin 5000) :
    shapeCast S8x5000 x h (ix2 r l) = x (ix2 (prior r l) (place l)) := by
  refine shapeCast_apply x h _ _ ?_
  rw [Shape.rowMajor_val_two, Shape.rowMajor_val_two]
  show (r.val * 2500 + l.val / 2) * 2 + l.val % 2 = r.val * 5000 + l.val
  omega

/-- An array given a trailing axis of one. -/
theorem column_at {α : Type} (a : S32x20000.Idx → α) (h : S32x20000.BroadcastsInDim S32x20000x1 ![0, 1]) (b : Fin 32) (p : Fin 20000) (z : Fin 1) :
    broadcastInDim S32x20000x1 ![0, 1] h a (ix3 b p z) = a (ix2 b p) :=
  broadcastInDim_apply _ h a _ _ fun k => by
    match k with
    | ⟨0, _⟩ => rfl
    | ⟨1, _⟩ => rfl

theorem slots_even {α : Type} (a a' : S32x20000.Idx → α) (b : Fin 32) (r : Fin 8) (l : Fin 5000) (hl : l.val % 2 = 0) :
    slots a a' (ix3 b r l) = a (ix2 b (prior r l)) := by
  unfold slots
  refine (lanes_at _ _ b r l).trans ?_
  refine (concatenate_pair_apply_left (t := S32x20000x2) (s₁ := S32x20000x1) (s₂ := S32x20000x1) 2 _ _ _ _ rfl (ix3 b (prior r l) 0) (fun k => ?_)).trans (column_at a _ b (prior r l) 0)
  match k with
  | ⟨0, _⟩ => rfl
  | ⟨1, _⟩ => rfl
  | ⟨2, _⟩ => show 0 = l.val % 2; omega

theorem slots_odd {α : Type} (a a' : S32x20000.Idx → α) (b : Fin 32) (r : Fin 8) (l : Fin 5000) (hl : l.val % 2 = 1) :
    slots a a' (ix3 b r l) = a' (ix2 b (prior r l)) := by
  unfold slots
  refine (lanes_at _ _ b r l).trans ?_
  refine (concatenate_pair_apply_right (t := S32x20000x2) (s₁ := S32x20000x1) (s₂ := S32x20000x1) 2 _ _ _ _ rfl rfl (ix3 b (prior r l) 0) (fun k hk => ?_) ?_).trans (column_at a' _ b (prior r l) 0)
  · match k with
    | ⟨0, _⟩ => rfl
    | ⟨1, _⟩ => rfl
    | ⟨2, _⟩ => exact absurd rfl hk
  · show 0 + 1 = l.val % 2; omega

theorem evenWord_at : ∀ k : Fin 2, evenWord (ix1 k) = if k.val = 0 then 1#32 else 0#32 := by decide

theorem spread_at (a : IVec S32x20000 32) (b : Fin 32) (r : Fin 8) (l : Fin 5000) :
    spread a (ix3 b r l) = IntOp.muli (a (ix2 b (prior r l))) (if l.val % 2 = 0 then 1#32 else 0#32) := by
  unfold spread
  refine (lanes_at _ _ b r l).trans ?_
  show IntOp.muli _ _ = _
  refine congrArg₂ IntOp.muli ?_ ?_
  · refine (broadcastInDim_apply _ _ _ _ (ix3 b (prior r l) 0) fun k => ?_).trans (column_at a _ b (prior r l) 0)
    match k with
    | ⟨0, _⟩ => rfl
    | ⟨1, _⟩ => rfl
    | ⟨2, _⟩ => rfl
  · refine (broadcastInDim_apply _ _ _ _ (ix3 0 0 (place l)) fun k => ?_).trans ?_
    · match k with
      | ⟨0, _⟩ => rfl
      | ⟨1, _⟩ => rfl
      | ⟨2, _⟩ => rfl
    refine (broadcastInDim_apply _ _ _ _ (ix1 (place l)) fun k => ?_).trans (evenWord_at (place l))
    match k with
    | ⟨0, _⟩ => rfl

/-- The kernel's flags and the reference's are one array. -/
theorem spread_eq (a : IVec S32x20000 32) : spread a = slots a zeros := by
  funext i
  obtain ⟨b, r, l, rfl⟩ : ∃ b r l, i = ix3 b r l := ⟨i 0, i 1, i 2, eq_ix3 i⟩
  rw [spread_at]
  by_cases hl : l.val % 2 = 0
  · rw [slots_even a zeros b r l hl, if_pos hl]; exact BitVec.mul_one _
  · rw [slots_odd a zeros b r l (by omega), if_neg hl]; exact BitVec.mul_zero

/-! ## The differences -/

theorem margin_at {F : FTy → Type} [BitOps F] (a : FVec F S32x20000x2 .f32) (b : Fin 32) (p : Fin 20000) :
    margin a (ix2 b p) = FloatOps.subf (a (ix3 b p 1)) (a (ix3 b p 0)) := by
  unfold margin
  show FloatOps.subf _ _ = _
  refine congrArg₂ FloatOps.subf ?_ ?_
  · refine (shapeCast_apply _ _ _ (ix3 b p 0) ?_).trans ?_
    · rw [Shape.rowMajor_val_three, Shape.rowMajor_val_two]
      show (b.val * 20000 + p.val) * 1 + 0 = b.val * 20000 + p.val
      omega
    refine extractStridedSlice_apply _ _ _ _ _ fun k => ?_
    match k with
    | ⟨0, _⟩ => show b.val = 0 + b.val; omega
    | ⟨1, _⟩ => show p.val = 0 + p.val; omega
    | ⟨2, _⟩ => rfl
  · refine (shapeCast_apply _ _ _ (ix3 b p 0) ?_).trans ?_
    · rw [Shape.rowMajor_val_three, Shape.rowMajor_val_two]
      show (b.val * 20000 + p.val) * 1 + 0 = b.val * 20000 + p.val
      omega
    refine extractStridedSlice_apply _ _ _ _ _ fun k => ?_
    match k with
    | ⟨0, _⟩ => show b.val = 0 + b.val; omega
    | ⟨1, _⟩ => show p.val = 0 + p.val; omega
    | ⟨2, _⟩ => rfl

/-- A block read with its leading axis of one dropped. -/
theorem drop_at {α : Type} (x : S1x8x5000.Idx → α) (h : S1x8x5000.ShapeCasts S8x5000) (r : Fin 8) (l : Fin 5000) :
    shapeCast S8x5000 x h (ix2 r l) = x (ix3 0 r l) := by
  refine shapeCast_apply x h _ _ ?_
  rw [Shape.rowMajor_val_three, Shape.rowMajor_val_two]
  show (0 * 8 + r.val) * 5000 + l.val = r.val * 5000 + l.val
  omega

theorem dropB_at {α : Type} (x : S1x8x10000.Idx → α) (h : S1x8x10000.ShapeCasts S8x10000) (r : Fin 8) (l : Fin 10000) :
    shapeCast S8x10000 x h (ix2 r l) = x (ix3 0 r l) := by
  refine shapeCast_apply x h _ _ ?_
  rw [Shape.rowMajor_val_three, Shape.rowMajor_val_two]
  show (0 * 8 + r.val) * 10000 + l.val = r.val * 10000 + l.val
  omega

/-- The kernel's difference at an even lane: the next lane's score less the lane's. -/
theorem diff_at {F : FTy → Type} [BitOps F] (x : Vec F S1x8x5000 .f32) (r : Fin 8) (l : Fin 5000) (hl : l.val % 2 = 0) :
    k0_pay12 x (ix2 r l) = FloatOps.subf (x (ix3 0 r ⟨l.val + 1, by omega⟩)) (x (ix3 0 r l)) := by
  unfold k0_pay12
  show FloatOps.subf _ _ = _
  refine congrArg₂ FloatOps.subf ?_ (drop_at _ _ r l)
  refine (dynamicRotate_apply (1 : Fin 2) 4999#32 _ _ _ (ix2 r ⟨l.val + 1, by omega⟩) fun b => ?_).trans (drop_at _ _ r ⟨l.val + 1, by omega⟩)
  match b with
  | ⟨0, _⟩ => rfl
  | ⟨1, _⟩ =>
    show l.val + 1 = (l.val + 5000 - 4999 % 5000) % 5000
    omega

/-! ## The numbers of the priors -/

theorem numbers_even (r : Fin 8) (l : Fin 5000) (hl : l.val % 2 = 0) : numbers (ix2 r l) = BitVec.ofNat 32 (r.val * 2500 + l.val / 2) := by
  unfold numbers
  refine (lanes2_at _ _ r l).trans ?_
  refine (concatenate_pair_apply_left (t := Cert.Reference.S20000x2) (s₁ := Cert.Reference.S20000x1) (s₂ := Cert.Reference.S20000x1) 1 _ _ _ _ rfl (ix2 (prior r l) 0) (fun k => ?_)).trans ?_
  · match k with
    | ⟨0, _⟩ => rfl
    | ⟨1, _⟩ => show 0 = l.val % 2; omega
  refine (broadcastInDim_apply _ _ _ _ (ix1 (prior r l)) fun k => ?_).trans rfl
  match k with
  | ⟨0, _⟩ => rfl

theorem numbers_odd (r : Fin 8) (l : Fin 5000) (hl : l.val % 2 = 1) : numbers (ix2 r l) = 4294967295#32 := by
  unfold numbers
  refine (lanes2_at _ _ r l).trans ?_
  refine (concatenate_pair_apply_right (t := Cert.Reference.S20000x2) (s₁ := Cert.Reference.S20000x1) (s₂ := Cert.Reference.S20000x1) 1 _ _ _ _ rfl rfl (ix2 (prior r l) 0) (fun k hk => ?_) ?_).trans ?_
  · match k with
    | ⟨0, _⟩ => rfl
    | ⟨1, _⟩ => exact absurd rfl hk
  · show 0 + 1 = l.val % 2; omega
  refine (broadcastInDim_apply _ _ _ _ (ix1 (prior r l)) fun k => ?_).trans rfl
  match k with
  | ⟨0, _⟩ => rfl

/-- The numbers of the reference, as its region reads them. -/
theorem numbersCast (r : Fin 8) (l : Fin 5000) : Cert.Reference.Gen.k0_pay1 (F := Bits) numbers (ix2 r l) = numbers (ix2 r l) := by
  unfold Cert.Reference.Gen.k0_pay1
  exact shapeCast_apply _ _ _ (ix2 r l) rfl

theorem word_toNat (r : Fin 8) (l : Fin 5000) : (BitVec.ofNat 32 (r.val * 2500 + l.val / 2)).toNat = r.val * 2500 + l.val / 2 := by
  have hr := r.isLt
  have hl := l.isLt
  rw [BitVec.toNat_ofNat]
  exact Nat.mod_eq_of_lt (Nat.lt_of_lt_of_le (show r.val * 2500 + l.val / 2 < 20000 by omega) (by decide))

/-- The kernel's own numbers. -/
theorem ownNumbers (r : Fin 8) (l : Fin 5000) : k0_pay3 (ix2 r l) = BitVec.ofNat 32 (r.val * 2500 + l.val / 2) := by
  unfold k0_pay3
  show IntOp.addi (IntOp.muli (iota .tc S8x5000 32 [0] iota_S8x5000_d0_w32 (ix2 r l)) 2500#32) (IntOp.shrui .vector (iota .tc S8x5000 32 [1] iota_S8x5000_d1_w32 (ix2 r l)) 1#32) = _
  rw [iota_single_apply, iota_single_apply]
  show BitVec.ofNat 32 r.val * 2500#32 + (BitVec.ofNat 32 l.val) >>> (1#32) = _
  have hh : (BitVec.ofNat 32 l.val) >>> (1#32) = BitVec.ofNat 32 (l.val / 2) := by
    have hl := l.isLt
    apply BitVec.eq_of_toNat_eq
    rw [BitVec.ushiftRight_eq', BitVec.toNat_ushiftRight, BitVec.toNat_ofNat, BitVec.toNat_ofNat, Nat.shiftRight_eq_div_pow, BitVec.toNat_ofNat,
      Nat.mod_eq_of_lt (Nat.lt_of_lt_of_le hl (by decide)), Nat.mod_eq_of_lt (Nat.lt_of_le_of_lt (Nat.div_le_self _ _) (Nat.lt_of_lt_of_le hl (by decide)))]
  rw [hh, BitVec.ofNat_add, BitVec.ofNat_mul]

theorem numbers_unique (l l' : S8x5000.Idx) (h0 : 0 ≤ (Cert.Reference.Gen.k0_pay1 (F := Bits) numbers l).toInt)
    (he : Cert.Reference.Gen.k0_pay1 (F := Bits) numbers l' = Cert.Reference.Gen.k0_pay1 (F := Bits) numbers l) : l' = l := by
  obtain ⟨r, c, rfl⟩ : ∃ r c, l = ix2 r c := ⟨l 0, l 1, eq_ix2 l⟩
  obtain ⟨r', c', rfl⟩ : ∃ r c, l' = ix2 r c := ⟨l' 0, l' 1, eq_ix2 l'⟩
  have hr := r.isLt
  have hc := c.isLt
  have hr' := r'.isLt
  have hc' := c'.isLt
  rw [numbersCast] at h0
  rw [numbersCast, numbersCast] at he
  rcases Nat.mod_two_eq_zero_or_one c.val with hp | hp
  · rcases Nat.mod_two_eq_zero_or_one c'.val with hp' | hp'
    · rw [numbers_even r c hp, numbers_even r' c' hp'] at he
      have h := congrArg BitVec.toNat he
      rw [word_toNat, word_toNat] at h
      have h1 : r' = r := Fin.ext (by omega)
      have h2 : c' = c := Fin.ext (by omega)
      rw [h1, h2]
    · rw [numbers_even r c hp, numbers_odd r' c' hp'] at he
      have h := congrArg BitVec.toNat he
      rw [word_toNat, show (4294967295#32).toNat = 4294967295 from rfl] at h
      omega
  · rw [numbers_odd r c hp] at h0
    exact absurd h0 (by decide)

/-! ## The masks are empty at odd lanes -/

theorem flag_even (a : IVec S32x20000 32) (b : Fin 32) (i : S8x5000.Idx)
    (h : cmpi .sgt (shapeCast S8x5000 (image (Val := Elt Bits) (e := .i32) (spread a) b) shapeCasts_S1x8x5000_S8x5000) (broadcast S8x5000 0#32) i = 1#1) :
    (i 1).val % 2 = 0 := by
  obtain ⟨r, l, rfl⟩ : ∃ r c, i = ix2 r c := ⟨i 0, i 1, eq_ix2 i⟩
  by_contra hl
  have h' : IntOp.cmpi .sgt (spread a (ix3 b r l)) 0#32 = 1#1 := by
    rw [← h]
    exact congrArg (IntOp.cmpi .sgt · 0#32) (drop_at (image (Val := Elt Bits) (e := .i32) (spread a) b) shapeCasts_S1x8x5000_S8x5000 r l).symm
  rw [spread_at, if_neg hl, show IntOp.muli (a (ix2 b (prior r l))) 0#32 = 0#32 from BitVec.mul_zero] at h'
  exact absurd h' (by decide)

theorem and_left {x y : BitVec 1} (h : IntOp.andi x y = 1#1) : x = 1#1 := by revert x y; decide

/-! ## The box term -/

theorem box_eq (a b : FVec Bits S32x20000x4 .f32) (o : IVec S32x20000 32) (h : S32x20000x4.ShapeCasts S32x8x10000) (k : Fin 32) :
    shapeCast S8x10000 (image (Val := Elt Bits) (e := .f32) (shapeCast S32x8x10000 (boxes a b o) h) k) shapeCasts_S1x8x10000_S8x10000
      = boxOf (image (Val := Elt Bits) (e := .f32) (shapeCast S32x8x10000 a h) k) (image (Val := Elt Bits) (e := .f32) (shapeCast S32x8x10000 b h) k)
          (image (Val := Elt Bits) (e := .f32) (shapeCast S32x8x10000 (weights (F := Bits) o) h) k) :=
  rfl

/-! ## The arrays -/

theorem rows_eq (a0 : FVec Bits S32x20000x2 .f32) (a1 a5 : FVec Bits S32x20000x4 .f32) (a2 a3 a4 : IVec S32x20000 32)
    (h : S32x20000x2.ShapeCasts S32x8x5000) (h' : S32x20000x4.ShapeCasts S32x8x10000) :
    rows (shapeCast S32x8x5000 a0 h) (spread a2) (spread a3) (spread a4) (shapeCast S32x8x10000 a1 h') (shapeCast S32x8x10000 a5 h') (shapeCast S32x8x10000 (weights a2) h')
      = Cert.Proof.Ref.refOut (slots (margin a0) (margin a0)) (slots a2 zeros) (slots a3 zeros) (slots a4 zeros) numbers (shapeCast S32x8x10000 (boxes a1 a5 a2) h') := by
  rw [spread_eq a2, spread_eq a3, spread_eq a4]
  funext y
  refine congrFun ?_ (ix3 0 (y 1) (y 2))
  refine row_eq (fun i => (i 1).val % 2 = 0) _ _ _ _ _ _ _ _ _ _ (fun i hi => ?_) (fun i hi => ?_) (fun i hi => ?_) (fun i hi => ?_) (fun i hi => ?_) numbers_unique (box_eq a1 a5 a2 h' (y 0))
  · rw [← spread_eq a2] at hi
    exact flag_even a2 (y 0) i hi
  · rw [← spread_eq a3] at hi
    exact flag_even a3 (y 0) i (and_left hi)
  · rw [← spread_eq a4] at hi
    exact flag_even a4 (y 0) i (and_left hi)
  · obtain ⟨r, l, rfl⟩ : ∃ r c, i = ix2 r c := ⟨i 0, i 1, eq_ix2 i⟩
    have hl : l.val % 2 = 0 := hi
    rw [diff_at _ r l hl]
    unfold Cert.Reference.Gen.k0_pay3
    refine Eq.trans ?_ (drop_at _ _ r l).symm
    refine Eq.trans ?_ (slots_even (margin a0) (margin a0) (y 0) r l hl).symm
    refine Eq.trans ?_ (margin_at a0 (y 0) (prior r l)).symm
    refine congrArg₂ FloatOps.subf ((lanes_at a0 h (y 0) r ⟨l.val + 1, by omega⟩).trans ?_) ((lanes_at a0 h (y 0) r l).trans ?_)
    · refine congrArg a0 ?_
      rw [show prior r ⟨l.val + 1, by omega⟩ = prior r l from Fin.ext (by show r.val * 2500 + (l.val + 1) / 2 = r.val * 2500 + l.val / 2; omega),
        show place ⟨l.val + 1, by omega⟩ = 1 from Fin.ext (by show (l.val + 1) % 2 = 1; omega)]
    · refine congrArg a0 ?_
      rw [show place l = 0 from Fin.ext (by show l.val % 2 = 0; omega)]
  · obtain ⟨r, l, rfl⟩ : ∃ r c, i = ix2 r c := ⟨i 0, i 1, eq_ix2 i⟩
    have hl : l.val % 2 = 0 := hi
    have hr := r.isLt
    have hl' := l.isLt
    rw [numbersCast, numbers_even r l hl]
    refine ⟨ownNumbers r l, ?_⟩
    rw [word_toNat]
    omega

end Cert.Proof.Row

end
-- ==== Proof.ClsStep.lean ====
module

public import proofs.«01_k».proof.Proof.Gen.Kernel2Ideal.Frame
public import Idealize.ShloMosaic.Lib.Pipeline.Value
public import Idealize.ShloMosaic.Lib.WholeRead
public import Idealize.ShloMosaic.Lib.WritesUnit
public import Idealize.ShloMosaic.Lib.ValueIdxCore

/-! What one step of the class call leaves behind: the value in the scratch after every grid point, and
the output block after an image's last one. The steps come in three kinds, an image's first block (A),
the blocks between (B) and its last one (C). -/

@[expose] public section

set_option maxRecDepth 16384

noncomputable section

namespace Cert.Proof.Cls

open Cert.Kernel2Ideal Cert.Kernel2Ideal.Gen
open Idealize.ShloMosaic Idealize.ShloMosaic.TcCoe Idealize.ShloMosaic.ValueIdx
open Idealize.SL.Sem
open Idealize.ShloMosaic.Pipeline (Dat Cfg Window)

variable {F : FTy → Type} [FloatOps F]

/-- Three zeros are the offset that is zero everywhere. -/
theorem hz3 : (![0, 0, 0] : Fin 3 → Nat) = fun _ => 0 := funext fun a => by fin_cases a <;> rfl

/-- The scratch has one index. -/
theorem one_index (y : S1.Idx) : y = (ix1 0 : S1.Idx) := by
  funext a
  match a with
  | ⟨0, _⟩ => exact Fin.ext (by have h : (y 0).val < 1 := (y 0).isLt; show (y 0).val = 0; omega)

/-- A load of a whole staging buffer reads what it holds. -/
theorem whole3 {n1 n2 : ℕ} {e : EltTy} {M : Memref sig .tc .vmem ⟨3, ![1, n1, n2]⟩ e} (h : M.IsWhole) (X : Vec F ⟨3, ![1, n1, n2]⟩ e)
    (inb : ∀ a, (![0, 0, 0] : Fin 3 → ℕ) a + (![1, n1, n2] : Fin 3 → ℕ) a ≤ (![1, n1, n2] : Fin 3 → ℕ) a) :
    View.readAt (Elt F) M.view (Rect.unit (s := ⟨3, ![1, n1, n2]⟩) ![0, 0, 0] ![1, n1, n2] inb).toLoadRect (h.unread X) = X := by
  funext x
  rw [h.readAt_unread]
  refine congrArg X (funext fun a => Fin.ext ?_)
  show (![0, 0, 0] : Fin 3 → ℕ) a + 1 * (x a).val = (x a).val
  rw [congrFun hz3 a]; omega

/-- A block between adds its share to what the scratch held. -/
theorem sB (c : Dev nD) (i : grid0.Coords) (arg2 : Memref sig .tc .vmem S1x4000x81 .f32) (harg2 : arg2.IsWhole) (arg3 : Memref sig .tc .vmem S1x4000x1 .i32) (harg3 : arg3.IsWhole) (arg4 : Memref sig .tc .vmem S1x4000x1 .f32) (harg4 : arg4.IsWhole) (arg5 : Memref sig .tc .vmem S1x1x128 .f32) (harg5 : arg5.IsWhole) (arg6 : Memref sig .tc .smem S1 .f32) (harg6 : arg6.IsWhole) (hc0 : ¬cond0_0 i) (hc1 : ¬cond0_1 i)
    (x0 : Vec F S1x4000x81 .f32) (x1 : Vec F S1x4000x1 .i32) (x2 : Vec F S1x4000x1 .f32) (xs0 : Vec F S1 .f32) :
    sout0_B_0 c i arg2 harg2 arg3 harg3 arg4 harg4 arg5 harg5 arg6 harg6 hc0 hc1 x0 x1 x2 xs0 = fun _ => k0_pay1 x0 x2 x1 (xs0 (ix1 0)) := by
  unfold sout0_B_0 kernelRun0_B
  funext y
  refine (View.read_writes_cons_unit_of_mem _ _ _ _ [] y y (funext fun a => by fin_cases a; rfl) (fun a => (Nat.zero_add _).symm)).trans ?_
  dsimp only
  rw [whole3 harg2, whole3 harg4, whole3 harg3]
  unfold kernelRun0_B.sl.r
  rw [harg6.readAt_unread, one_index ((Rect.unit ![0] S1.size inb_S1_S1_0).toLoadRect.idx _)]

/-- So does the last block. -/
theorem sC (c : Dev nD) (i : grid0.Coords) (arg2 : Memref sig .tc .vmem S1x4000x81 .f32) (harg2 : arg2.IsWhole) (arg3 : Memref sig .tc .vmem S1x4000x1 .i32) (harg3 : arg3.IsWhole) (arg4 : Memref sig .tc .vmem S1x4000x1 .f32) (harg4 : arg4.IsWhole) (arg5 : Memref sig .tc .vmem S1x1x128 .f32) (harg5 : arg5.IsWhole) (arg6 : Memref sig .tc .smem S1 .f32) (harg6 : arg6.IsWhole) (hc0 : ¬cond0_0 i) (hc1 : cond0_1 i)
    (x0 : Vec F S1x4000x81 .f32) (x1 : Vec F S1x4000x1 .i32) (x2 : Vec F S1x4000x1 .f32) (xs0 : Vec F S1 .f32) :
    sout0_C_0 c i arg2 harg2 arg3 harg3 arg4 harg4 arg5 harg5 arg6 harg6 hc0 hc1 x0 x1 x2 xs0 = fun _ => k0_pay1 x0 x2 x1 (xs0 (ix1 0)) := by
  unfold sout0_C_0 kernelRun0_C
  funext y
  refine (View.read_writes_cons_unit_of_mem _ _ _ _ [] y y (funext fun a => by fin_cases a; rfl) (fun a => (Nat.zero_add _).symm)).trans ?_
  dsimp only
  rw [whole3 harg2, whole3 harg4, whole3 harg3]
  unfold kernelRun0_C.sl.r
  rw [harg6.readAt_unread, one_index ((Rect.unit ![0] S1.size inb_S1_S1_0).toLoadRect.idx _)]

/-- The first block adds its share to zero. -/
theorem sA (c : Dev nD) (i : grid0.Coords) (arg2 : Memref sig .tc .vmem S1x4000x81 .f32) (harg2 : arg2.IsWhole) (arg3 : Memref sig .tc .vmem S1x4000x1 .i32) (harg3 : arg3.IsWhole) (arg4 : Memref sig .tc .vmem S1x4000x1 .f32) (harg4 : arg4.IsWhole) (arg5 : Memref sig .tc .vmem S1x1x128 .f32) (harg5 : arg5.IsWhole) (arg6 : Memref sig .tc .smem S1 .f32) (harg6 : arg6.IsWhole) (hc0 : cond0_0 i) (hc1 : ¬cond0_1 i)
    (x0 : Vec F S1x4000x81 .f32) (x1 : Vec F S1x4000x1 .i32) (x2 : Vec F S1x4000x1 .f32) :
    sout0_A_0 c i arg2 harg2 arg3 harg3 arg4 harg4 arg5 harg5 arg6 harg6 hc0 hc1 x0 x1 x2 = fun _ => k0_pay1 x0 x2 x1 (Scalar.ofBits .f32 0x00000000#32) := by
  unfold sout0_A_0 kernelRun0_A
  funext y
  refine (View.read_writes_cons_unit_of_mem _ _ _ _ _ y y (funext fun a => by fin_cases a; rfl) (fun a => (Nat.zero_add _).symm)).trans ?_
  dsimp only
  rw [whole3 harg2, whole3 harg4, whole3 harg3]
  rfl

/-- The last block writes the sum that it has just stored to the output block. -/
theorem oC (c : Dev nD) (i : grid0.Coords) (arg2 : Memref sig .tc .vmem S1x4000x81 .f32) (harg2 : arg2.IsWhole) (arg3 : Memref sig .tc .vmem S1x4000x1 .i32) (harg3 : arg3.IsWhole) (arg4 : Memref sig .tc .vmem S1x4000x1 .f32) (harg4 : arg4.IsWhole) (arg5 : Memref sig .tc .vmem S1x1x128 .f32) (harg5 : arg5.IsWhole) (arg6 : Memref sig .tc .smem S1 .f32) (harg6 : arg6.IsWhole) (hc0 : ¬cond0_0 i) (hc1 : cond0_1 i)
    (x0 : Vec F S1x4000x81 .f32) (x1 : Vec F S1x4000x1 .i32) (x2 : Vec F S1x4000x1 .f32) (xs0 : Vec F S1 .f32) :
    out0_C_3 c i arg2 harg2 arg3 harg3 arg4 harg4 arg5 harg5 arg6 harg6 hc0 hc1 x0 x1 x2 xs0 = k0_pay2 (k0_pay1 x0 x2 x1 (xs0 (ix1 0))) := by
  unfold out0_C_3 kernelRun0_C
  funext y
  refine (View.read_writes_cons_unit_of_mem _ _ _ _ [] y y hz3 (fun a => (Nat.zero_add _).symm)).trans ?_
  unfold kernelRun0_C.sl.r_1
  rw [whole3 harg2, whole3 harg4, whole3 harg3]
  unfold kernelRun0_C.sl.r
  rw [harg6.readAt_unread, one_index ((Rect.unit ![0] S1.size inb_S1_S1_0).toLoadRect.idx _)]

variable (m : (ℓ : Loc nD τ sig) → Buf (Elt F) ℓ)

/-- The block of scores of a point, its weights and its labels, after an accumulated value. -/
def stepVal (c : Dev nD) (t : Fin cfg0.N) (a : F .f32) : F .f32 := k0_pay1 (iblk m c 0 t) (iblk m c 2 t) (iblk m c 1 t) a

/-- What the scratch holds after a point: an image's first block starts from zero. -/
def acc (c : Dev nD) : (n : ℕ) → n < cfg0.N → F .f32
  | 0, hn => stepVal m c ⟨0, hn⟩ (Scalar.ofBits .f32 0x00000000#32)
  | n + 1, hn => stepVal m c ⟨n + 1, hn⟩ (if (n + 1) % 5 = 0 then Scalar.ofBits .f32 0x00000000#32 else acc c n (Nat.lt_of_succ_lt hn))

/-- The scratch after a point holds the value accumulated up to it. -/
theorem scr (c : Dev nD) : ∀ (n : ℕ) (hn : n < cfg0.N), (outsAt0 m c n hn).2 = fun _ => acc m c n hn
  | 0, hn => by
    rw [outsAt0_A m c ⟨0, hn⟩ rfl (show ¬ 0 % 5 = 4 by decide)]
    dsimp only
    rw [sA]; rfl
  | n + 1, hn => by
    by_cases h0 : (n + 1) % 5 = 0
    · rw [outsAt0_A m c ⟨n + 1, hn⟩ h0 (by show ¬ (n + 1) % 5 = 4; omega)]
      dsimp only
      rw [sA]; unfold acc; rw [if_pos h0]; rfl
    · by_cases h1 : (n + 1) % 5 = 4
      · rw [outsAt0_C m c ⟨n + 1, hn⟩ h0 h1]
        dsimp only
        rw [sC]; unfold acc; rw [if_neg h0]
        show (fun _ => k0_pay1 _ _ _ ((outsAt0 m c n _).2 (ix1 0))) = _
        rw [scr c n]; rfl
      · rw [outsAt0_B m c ⟨n + 1, hn⟩ h0 h1]
        dsimp only
        rw [sB]; unfold acc; rw [if_neg h0]
        show (fun _ => k0_pay1 _ _ _ ((outsAt0 m c n _).2 (ix1 0))) = _
        rw [scr c n]; rfl

/-- What an image's last block leaves in the output block: the accumulated value in lane zero. -/
theorem out_last (c : Dev nD) (n : ℕ) (hn : n < cfg0.N) (h1 : n % 5 = 4) : (outsAt0 m c n hn).1 = k0_pay2 (acc m c n hn) := by
  cases n with
  | zero => exact absurd h1 (by decide)
  | succ n =>
    have h0 : ¬ (n + 1) % 5 = 0 := by omega
    rw [outsAt0_C m c ⟨n + 1, hn⟩ h0 h1]
    dsimp only
    rw [oC]; unfold acc; rw [if_neg h0]
    show k0_pay2 (k0_pay1 _ _ _ ((outsAt0 m c n _).2 (ix1 0))) = _
    rw [scr]; rfl

end Cert.Proof.Cls

end
-- ==== Proof.ClsBlock.lean ====
module

public import proofs.«01_k».proof.Proof.Gen.Kernel2Ideal.Skeleton
public import Idealize.ShloMosaic.Lib.Pointwise

/-! What one step of the class call adds to the running sum, read in the extended reals. -/

@[expose] public section

noncomputable section

namespace Cert.Proof.Cls

open Cert.Kernel2Ideal Cert.Kernel2Ideal.Gen
open Idealize.ShloMosaic

/-- A step adds the weighted logarithms of its rows, less the scores of the classes its rows are labelled with. -/
theorem pay1_eq (v3 : FVec Ideal S1x4000x81 .f32) (v8 : FVec Ideal S1x4000x1 .f32) (v17 : IVec S1x4000x1 32) (a : EReal) :
    k0_pay1 (F := Ideal) v3 v8 v17 a
      = a + ((∑ q : Fin 4000, v8 (ix3 0 q 0) * Ideal.log (∑ k : Fin 81, Ideal.exp (v3 (ix3 0 q k))))
        - ∑ q : Fin 4000, ∑ k : Fin 81, Scalar.select (IntOp.cmpi .eq (BitVec.ofNat 32 k.val) (v17 (ix3 0 q 0))) (v3 (ix3 0 q k)) 0) := by
  pointwise [k0_pay1]
  simp only [Finset.univ_unique, Finset.sum_singleton]

/-- The first lane of the block that a step writes is the running sum. -/
theorem pay2_eq (a : EReal) : k0_pay2 (F := Ideal) a (ix3 0 0 0) = a := by
  pointwise [k0_pay2]

end Cert.Proof.Cls

end
-- ==== Proof.ClsValue.lean ====
module

public import proofs.«01_k».proof.Proof.ClsStep
public import proofs.«01_k».proof.Proof.ClsBlock
public import Idealize.ShloMosaic.Lib.Pipeline.Value
public import Idealize.ShloMosaic.Lib.StableHlo.Run

/-! What the class call's program ends with: the arrays its region finds, as functions of the
arguments; the array it leaves, image by image; and the result, the later lines' function of it. -/

@[expose] public section

set_option maxRecDepth 16384

noncomputable section

namespace Cert.Proof.Cls

open Cert.Kernel2Ideal Cert.Kernel2Ideal.Gen
open Idealize.ShloMosaic Idealize.ShloMosaic.TcCoe
open Idealize.SL.Sem
open Idealize.ShloMosaic.Pipeline (Dat Cfg Window)

/-! ## The arrays the region finds -/

section
variable {F : FTy → Type} [FloatOps F]

/-- The classes, that of a prior without an object replaced by a number of no class. -/
def labels (obj lab : IVec S32x20000 32) : IVec S32x20000x1 32 :=
  broadcastInDim S32x20000x1 ![0, 1] bcast_S32x20000_S32x20000x1_0_1
    (select (cmpi .sgt obj (broadcastInDim S32x20000 ![] bcast_S_S32x20000 (constantI S_ 32 0#32))) lab (broadcastInDim S32x20000 ![] bcast_S_S32x20000 (constantI S_ 32 4294967295#32)))

/-- The weights: one for a prior with an object. -/
def weights (obj : IVec S32x20000 32) : FVec F S32x20000x1 .f32 :=
  broadcastInDim S32x20000x1 ![0, 1] bcast_S32x20000_S32x20000x1_0_1
    (uitofp .f32 (cmpi .sgt obj (broadcastInDim S32x20000 ![] bcast_S_S32x20000 (constantI S_ 32 0#32))))

theorem V_v3 (m : (ℓ : Loc nD τ sig) → Buf (Elt F) ℓ) (c : Dev nD) :
    V m c main_v3 = labels (m ((c : Thread nD τ).loc main_arg1)) (m ((c : Thread nD τ).loc main_arg2)) := by
  show StableHlo.after (List.flatten [hostOps0, hostOps0_1, hostOps0_2]) _ (Proc.devRef .tc main_v3) = _
  simp only [List.flatten_cons, List.flatten_nil, List.cons_append, List.nil_append, List.append_nil]
  after_results
  rfl

theorem V_v7 (m : (ℓ : Loc nD τ sig) → Buf (Elt F) ℓ) (c : Dev nD) :
    V m c main_v7 = weights (m ((c : Thread nD τ).loc main_arg1)) := by
  show StableHlo.after (List.flatten [hostOps0, hostOps0_1, hostOps0_2]) _ (Proc.devRef .tc main_v7) = _
  simp only [List.flatten_cons, List.flatten_nil, List.cons_append, List.nil_append, List.append_nil]
  after_results
  rfl

end

variable (m : (ℓ : Loc nD τ sig) → Buf (Elt Ideal) ℓ) (ρ : Dev nD → PrngReg)

/-! ## The later lines -/

/-- The total over the images of the first lane, over the denominator. -/
def result (x : FVec Ideal S32x1x128 .f32) (n : FVec Ideal S_ .f32) : FVec Ideal S_ .f32 :=
  Host.divf (Host.reduceAdd (shapeCast S32 (extractStridedSlice S32x1x1 ![0, 0, 0] x slices_S32x1x128_S32x1x1_0_0_0) shapeCasts_S32x1x1_S32) (constant S_ .f32 0x00000000#32) reducesTo_S32_S_d0 h_S_) n

theorem result_apply (x : FVec Ideal S32x1x128 .f32) (n : FVec Ideal S_ .f32) :
    result x n ix0 = Ideal.div (∑ b : Fin 32, x (ix3 b 0 0)) (n ix0) := by
  pointwise [result]

theorem labels_apply (obj lab : IVec S32x20000 32) (b : Fin 32) (p : Fin 20000) :
    labels obj lab (ix3 b p 0) = Scalar.select (IntOp.cmpi .sgt (obj (ix2 b p)) 0#32) (lab (ix2 b p)) 4294967295#32 := by
  pointwise [labels]

theorem weights_apply (obj : IVec S32x20000 32) (b : Fin 32) (p : Fin 20000) :
    weights (F := Ideal) obj (ix3 b p 0) = (((IntOp.cmpi .sgt (obj (ix2 b p)) 0#32).toNat : ℝ) : EReal) := by
  pointwise [weights]
  rfl

/-- The array the region leaves. -/
abbrev final (c : Dev nD) : Buf (Elt Ideal) ((c : Thread nD τ).loc main_v8) := (dats m 0 c).arrAt 3 cfg0.N

theorem tail_base (c : Dev nD) : Pipeline.withArrays cfg0.spec c (V0 m c) (fun w => (dats m 0 c).arrAt w cfg0.N) (Proc.devRef .tc main_v8) = final m c :=
  Pipeline.withArrays_arr cfg0.spec (by decide) c (V0 m c) (fun w => (dats m 0 c).arrAt w cfg0.N) 3

theorem tail_v12 (c : Dev nD) : Pipeline.afterTail₀ cfgs (dats m) 0 (V0 m) [hostOps1] c main_v12 = result (final m c) (m ((c : Thread nD τ).loc main_arg3)) := by
  rw [← tail_base]
  unfold Pipeline.afterTail₀
  show StableHlo.after hostOps1 _ (Proc.devRef .tc main_v12) = _
  after_results
  rfl

/-! ## The blocks -/

/-- The grid point of an image's block of rows. -/
def pt (b : Fin 32) (k : Fin 5) : Fin cfg0.N := ⟨5 * b.val + k.val, by have h : cfg0.N = 160 := N_0; omega⟩

/-- The prior of a block's row. -/
def row (k : Fin 5) (q : Fin 4000) : Fin 20000 := ⟨k.val * 4000 + q.val, by omega⟩

/-- The image of a grid point. -/
def img (t : Fin cfg0.N) : Fin 32 := ⟨t.val / 5, by have h : cfg0.N = 160 := N_0; have := t.isLt; omega⟩

theorem at0 : ∀ t : Fin cfg0.N, win0_0.index t (0 : Fin 3) = t.val / 5 ∧ win0_0.index t (1 : Fin 3) = t.val % 5 ∧ win0_0.index t (2 : Fin 3) = 0 :=
  (by decide +kernel : ∀ t : Fin grid0.N, _)

theorem at1 : ∀ t : Fin cfg0.N, win0_1.index t (0 : Fin 3) = t.val / 5 ∧ win0_1.index t (1 : Fin 3) = t.val % 5 ∧ win0_1.index t (2 : Fin 3) = 0 :=
  (by decide +kernel : ∀ t : Fin grid0.N, _)

theorem at2 : ∀ t : Fin cfg0.N, win0_2.index t (0 : Fin 3) = t.val / 5 ∧ win0_2.index t (1 : Fin 3) = t.val % 5 ∧ win0_2.index t (2 : Fin 3) = 0 :=
  (by decide +kernel : ∀ t : Fin grid0.N, _)

theorem at3 : ∀ t : Fin cfg0.N, win0_3.index t (0 : Fin 3) = t.val / 5 ∧ win0_3.index t (1 : Fin 3) = 0 ∧ win0_3.index t (2 : Fin 3) = 0 :=
  (by decide +kernel : ∀ t : Fin grid0.N, _)

theorem emb0 (b : Fin 32) (k : Fin 5) (q : Fin 4000) (z : Fin 81) :
    ((cfg0.win 0).blk (pt b k)).view.emb (ix3 0 q z : S1x4000x81.Idx) = (ix3 b (row k q) z : S32x20000x81.Idx) := by
  obtain ⟨e0, e1, e2⟩ := at0 (pt b k)
  have hp : (pt b k).val = 5 * b.val + k.val := rfl
  funext a; apply Fin.ext
  match a with
  | ⟨0, _⟩ => show win0_0.index (pt b k) (0 : Fin 3) * 1 + 1 * 0 = b.val; omega
  | ⟨1, _⟩ => show win0_0.index (pt b k) (1 : Fin 3) * 4000 + 1 * q.val = k.val * 4000 + q.val; omega
  | ⟨2, _⟩ => show win0_0.index (pt b k) (2 : Fin 3) * 81 + 1 * z.val = z.val; omega

theorem emb1 (b : Fin 32) (k : Fin 5) (q : Fin 4000) :
    ((cfg0.win 1).blk (pt b k)).view.emb (ix3 0 q 0 : S1x4000x1.Idx) = (ix3 b (row k q) 0 : S32x20000x1.Idx) := by
  obtain ⟨e0, e1, e2⟩ := at1 (pt b k)
  have hp : (pt b k).val = 5 * b.val + k.val := rfl
  funext a; apply Fin.ext
  match a with
  | ⟨0, _⟩ => show win0_1.index (pt b k) (0 : Fin 3) * 1 + 1 * 0 = b.val; omega
  | ⟨1, _⟩ => show win0_1.index (pt b k) (1 : Fin 3) * 4000 + 1 * q.val = k.val * 4000 + q.val; omega
  | ⟨2, _⟩ => show win0_1.index (pt b k) (2 : Fin 3) * 1 + 1 * 0 = 0; omega

theorem emb2 (b : Fin 32) (k : Fin 5) (q : Fin 4000) :
    ((cfg0.win 2).blk (pt b k)).view.emb (ix3 0 q 0 : S1x4000x1.Idx) = (ix3 b (row k q) 0 : S32x20000x1.Idx) := by
  obtain ⟨e0, e1, e2⟩ := at2 (pt b k)
  have hp : (pt b k).val = 5 * b.val + k.val := rfl
  funext a; apply Fin.ext
  match a with
  | ⟨0, _⟩ => show win0_2.index (pt b k) (0 : Fin 3) * 1 + 1 * 0 = b.val; omega
  | ⟨1, _⟩ => show win0_2.index (pt b k) (1 : Fin 3) * 4000 + 1 * q.val = k.val * 4000 + q.val; omega
  | ⟨2, _⟩ => show win0_2.index (pt b k) (2 : Fin 3) * 1 + 1 * 0 = 0; omega

theorem emb3 (t : Fin cfg0.N) (j : S1x1x128.Idx) : ((cfg0.win 3).blk t).view.emb j = (ix3 (img t) (j 1) (j 2) : S32x1x128.Idx) := by
  obtain ⟨e0, e1, e2⟩ := at3 t
  have h0 : (j 0).val < 1 := (j 0).isLt
  funext a; apply Fin.ext
  match a with
  | ⟨0, _⟩ => show win0_3.index t (0 : Fin 3) * 1 + 1 * (j 0).val = t.val / 5; omega
  | ⟨1, _⟩ => show win0_3.index t (1 : Fin 3) * 1 + 1 * (j 1).val = (j 1).val; omega
  | ⟨2, _⟩ => show win0_3.index t (2 : Fin 3) * 128 + 1 * (j 2).val = (j 2).val; omega

theorem iblk0_apply (c : Dev nD) (b : Fin 32) (k : Fin 5) (q : Fin 4000) (z : Fin 81) :
    (iblk m c 0 (pt b k) : FVec Ideal S1x4000x81 .f32) (ix3 0 q z) = (m ((c : Thread nD τ).loc main_arg0) : FVec Ideal S32x20000x81 .f32) (ix3 b (row k q) z) := by
  show V m c main_arg0 (((cfg0.win 0).blk (pt b k)).view.emb (ix3 0 q z : S1x4000x81.Idx)) = _
  rw [emb0, V_main_arg0]

theorem iblk1_apply (c : Dev nD) (b : Fin 32) (k : Fin 5) (q : Fin 4000) :
    (iblk m c 1 (pt b k) : IVec S1x4000x1 32) (ix3 0 q 0) = labels (m ((c : Thread nD τ).loc main_arg1)) (m ((c : Thread nD τ).loc main_arg2)) (ix3 b (row k q) 0) := by
  show V m c main_v3 (((cfg0.win 1).blk (pt b k)).view.emb (ix3 0 q 0 : S1x4000x1.Idx)) = _
  rw [emb1, V_v3]

theorem iblk2_apply (c : Dev nD) (b : Fin 32) (k : Fin 5) (q : Fin 4000) :
    (iblk m c 2 (pt b k) : FVec Ideal S1x4000x1 .f32) (ix3 0 q 0) = weights (F := Ideal) (m ((c : Thread nD τ).loc main_arg1)) (ix3 b (row k q) 0) := by
  show V m c main_v7 (((cfg0.win 2).blk (pt b k)).view.emb (ix3 0 q 0 : S1x4000x1.Idx)) = _
  rw [emb2, V_v7]

/-! ## The running sum -/

/-- What the block of rows of an image adds to the running sum. -/
def blockSum (x : FVec Ideal S32x20000x81 .f32) (w : FVec Ideal S32x20000x1 .f32) (l : IVec S32x20000x1 32) (b : Fin 32) (k : Fin 5) : EReal :=
  (∑ q : Fin 4000, w (ix3 b (row k q) 0) * Ideal.log (∑ z : Fin 81, Ideal.exp (x (ix3 b (row k q) z))))
    - ∑ q : Fin 4000, ∑ z : Fin 81, Scalar.select (IntOp.cmpi .eq (BitVec.ofNat 32 z.val) (l (ix3 b (row k q) 0))) (x (ix3 b (row k q) z)) 0

/-- The same, of the program's arguments. -/
abbrev blockOf (c : Dev nD) (b : Fin 32) (k : Fin 5) : EReal :=
  blockSum (m ((c : Thread nD τ).loc main_arg0)) (weights (m ((c : Thread nD τ).loc main_arg1))) (labels (m ((c : Thread nD τ).loc main_arg1)) (m ((c : Thread nD τ).loc main_arg2))) b k

theorem stepVal_eq (c : Dev nD) (b : Fin 32) (k : Fin 5) (a : EReal) : stepVal m c (pt b k) a = a + blockOf m c b k := by
  unfold stepVal
  rw [pay1_eq]
  unfold blockOf blockSum
  simp only [iblk0_apply, iblk1_apply, iblk2_apply]

theorem acc_first (c : Dev nD) (b : Fin 32) : acc m c (pt b 0).val (pt b 0).isLt = blockOf m c b 0 := by
  have h : ∀ (n : ℕ) (hn : n < cfg0.N), n % 5 = 0 → acc m c n hn = stepVal m c ⟨n, hn⟩ (Scalar.ofBits .f32 0x00000000#32) := by
    intro n hn h0
    cases n with
    | zero => rfl
    | succ n => show stepVal m c _ _ = _; rw [if_pos h0]
  rw [h _ _ (by show (5 * b.val + 0) % 5 = 0; omega)]
  show stepVal m c (pt b 0) _ = _
  rw [stepVal_eq]
  show Ideal.ofBits .f32 0x00000000#32 + _ = _
  rw [show Ideal.ofBits .f32 0x00000000#32 = (0 : EReal) by simp [Ideal.ofBits, Ideal.ieee], zero_add]

theorem acc_next (c : Dev nD) (b : Fin 32) (k k' : Fin 5) (h : k'.val = k.val + 1) :
    acc m c (pt b k').val (pt b k').isLt = acc m c (pt b k).val (pt b k).isLt + blockOf m c b k' := by
  have e : ∀ (n : ℕ) (hn : n + 1 < cfg0.N), ¬ (n + 1) % 5 = 0 → acc m c (n + 1) hn = stepVal m c ⟨n + 1, hn⟩ (acc m c n (Nat.lt_of_succ_lt hn)) := by
    intro n hn h0
    show stepVal m c _ _ = _
    rw [if_neg h0]
  have hv : (pt b k').val = (pt b k).val + 1 := by show 5 * b.val + k'.val = 5 * b.val + k.val + 1; omega
  have hlt : (pt b k).val + 1 < cfg0.N := hv ▸ (pt b k').isLt
  have hpt : (⟨(pt b k).val + 1, hlt⟩ : Fin cfg0.N) = pt b k' := Fin.ext hv.symm
  have h1 := e (pt b k).val hlt (by have hp : (pt b k).val = 5 * b.val + k.val := rfl; have := k'.isLt; omega)
  rw [hpt, stepVal_eq] at h1
  rw [← h1]
  congr 1

/-- After an image's last block: the sum of what its blocks add. -/
theorem acc_last (c : Dev nD) (b : Fin 32) : acc m c (pt b 4).val (pt b 4).isLt = ∑ k : Fin 5, blockOf m c b k := by
  rw [acc_next m c b 3 4 rfl, acc_next m c b 2 3 rfl, acc_next m c b 1 2 rfl, acc_next m c b 0 1 rfl, acc_first, Fin.sum_univ_five]

/-! ## The array the region leaves -/

/-- The blocks of all the images. -/
def blocks (c : Dev nD) : FVec Ideal S32x1x128 .f32 :=
  fun y => k0_pay2 (F := Ideal) (acc m c (pt (y 0) 4).val (pt (y 0) 4).isLt) (ix3 0 (y 1) (y 2))

theorem flushed_eq (c : Dev nD) (t : Fin cfg0.N) (h : t.val % 5 = 4) :
    (dats m 0 c).flushed 3 t = ((cfg0.win 3).blk t).view.read (Elt Ideal) (blocks m c) := by
  show (cfg0.win 3).cut (grid0.coords t) ((dats m 0 c).after 3 t) = _
  rw [after0_3, out_last m c t.val t.isLt h]
  funext j
  show k0_pay2 _ j = blocks m c (((cfg0.win 3).blk t).view.emb j)
  rw [emb3]
  unfold blocks
  have hj : j = (ix3 0 (j 1) (j 2) : S1x1x128.Idx) := by
    funext a; apply Fin.ext
    match a with
    | ⟨0, _⟩ => show (j 0).val = 0; have h0 : (j 0).val < 1 := (j 0).isLt; omega
    | ⟨1, _⟩ => rfl
    | ⟨2, _⟩ => rfl
  have ht : pt (img t) 4 = t := Fin.ext (by show 5 * (t.val / 5) + 4 = t.val; omega)
  show k0_pay2 (F := Ideal) (acc m c t.val t.isLt) j = k0_pay2 (F := Ideal) (acc m c (pt (img t) 4).val (pt (img t) 4).isLt) (ix3 0 (j 1) (j 2))
  rw [ht]
  exact congrArg (k0_pay2 (F := Ideal) (acc m c t.val t.isLt)) hj

theorem cover (i : S32x1x128.Idx) : ∃ t : Fin cfg0.N, (cfg0.win 3).flush t = true ∧ i ∈ ((cfg0.win 3).blk t).view.set := by
  refine ⟨pt (i 0) 4, (flush0_3 _).mpr (by show (5 * (i 0).val + 4) % 5 = 4; omega), ?_⟩
  have h := ((cfg0.win 3).blk (pt (i 0) 4)).view.emb_mem_set (ix3 0 (i 1) (i 2) : S1x1x128.Idx)
  rw [emb3] at h
  have e : (ix3 (img (pt (i 0) 4)) ((ix3 0 (i 1) (i 2) : S1x1x128.Idx) 1) ((ix3 0 (i 1) (i 2) : S1x1x128.Idx) 2) : S32x1x128.Idx) = i := by
    funext a; apply Fin.ext
    match a with
    | ⟨0, _⟩ => show (5 * (i 0).val + 4) / 5 = (i 0).val; omega
    | ⟨1, _⟩ => rfl
    | ⟨2, _⟩ => rfl
  rwa [e] at h

/-- The array the region leaves: the blocks of the images. -/
theorem final_eq (c : Dev nD) : final m c = blocks m c :=
  (dats m 0 c).arrAt_eq_of_cover 3 _ (fun t ht => flushed_eq m c t ((flush0_3 t).mp ht)) cover

/-- The result: the sum of what all the blocks of all the images add, over the denominator. -/
theorem result_final (c : Dev nD) :
    result (final m c) (m ((c : Thread nD τ).loc main_arg3))
      = fun _ => Ideal.div (∑ b : Fin 32, ∑ k : Fin 5, blockOf m c b k) ((m ((c : Thread nD τ).loc main_arg3) : FVec Ideal S_ .f32) ix0) := by
  have key : ∀ (b : Fin 32), blocks m c (ix3 b 0 0) = ∑ k : Fin 5, blockOf m c b k := by
    intro b
    rw [← acc_last]
    exact pay2_eq _
  rw [final_eq]
  generalize blocks m c = x at key
  generalize m ((c : Thread nD τ).loc main_arg3) = n
  funext y
  have hy : y = (ix0 : S_.Idx) := funext fun a => a.elim0
  rw [hy, result_apply, Finset.sum_congr rfl fun b _ => key b]

end Cert.Proof.Cls

end
-- ==== Proof.ClsGather.lean ====
module

public import Idealize.ShloMosaic.Lib.Pointwise

/-! A gather that takes one score of every row: the entry `(b, p, 0)` of the result is the score of
row `(b, p)` at the class that the start indices name there, clamped into the classes. -/

@[expose] public section

noncomputable section

namespace Cert.Proof.Cls

open Idealize.ShloMosaic

/-- The dimension numbers of such a gather, for `B` images of `P` rows of `C` classes. -/
abbrev pickDims (B P C : Nat)
    (wf : GatherDims.WF ⟨3, ![B, P, C]⟩ ⟨4, ![B, P, 1, 1]⟩ ⟨3, ![B, P, 1]⟩ [] [2] [0, 1] [2] [0, 1] 3 ![1, 1, 1]) :
    GatherDims ⟨3, ![B, P, C]⟩ ⟨4, ![B, P, 1, 1]⟩ ⟨3, ![B, P, 1]⟩ where
  offsetDims := []
  collapsedSliceDims := [2]
  operandBatchingDims := [0, 1]
  startIndicesBatchingDims := [0, 1]
  startIndexMap := [2]
  indexVectorDim := 3
  sliceSizes := ![1, 1, 1]
  wf := wf

/-- The gather read at one row. -/
theorem pick_apply {α : Type} {B P C w : Nat} (hC : 0 < C)
    (wf : GatherDims.WF ⟨3, ![B, P, C]⟩ ⟨4, ![B, P, 1, 1]⟩ ⟨3, ![B, P, 1]⟩ [] [2] [0, 1] [2] [0, 1] 3 ![1, 1, 1])
    (x : (⟨3, ![B, P, C]⟩ : Shape).Idx → α) (idx : IVec ⟨4, ![B, P, 1, 1]⟩ w) (b : Fin B) (p : Fin P) :
    Host.gather (pickDims B P C wf) x idx (ix3 b p 0)
      = x (ix3 b p ⟨min (idx (ix4 b p 0 0)).toInt.toNat (C - 1), by omega⟩) := by
  unfold Host.gather
  congr 1
  funext a
  refine Fin.ext ?_
  show (pickDims B P C wf).start (ix3 b p 0) idx a + (pickDims B P C wf).batchCoord (ix3 b p 0) a
      + (pickDims B P C wf).offCoord (ix3 b p 0) a = _
  have hcases : a = 0 ∨ a = 1 ∨ a = 2 := by
    match a with
    | ⟨0, _⟩ => exact Or.inl rfl
    | ⟨1, _⟩ => exact Or.inr (Or.inl rfl)
    | ⟨2, _⟩ => exact Or.inr (Or.inr rfl)
  have m0 : (0 : Fin 3) ∈ (pickDims B P C wf).operandBatchingDims := List.mem_cons_self
  have m1 : (1 : Fin 3) ∈ (pickDims B P C wf).operandBatchingDims := List.mem_cons_of_mem _ List.mem_cons_self
  have m2 : (2 : Fin 3) ∈ (pickDims B P C wf).startIndexMap := List.mem_singleton.mpr rfl
  rcases hcases with rfl | rfl | rfl
  · rw [GatherDims.start_batching _ _ _ _ m0,
      GatherDims.offCoord_eq_zero _ _ _ (fun h => ((GatherDims.mem_sKept _ _).mp h).2 m0)]
    simp only [Nat.zero_add, Nat.add_zero]
    unfold GatherDims.batchCoord
    rw [dif_pos m0]
    rfl
  · rw [GatherDims.start_batching _ _ _ _ m1,
      GatherDims.offCoord_eq_zero _ _ _ (fun h => ((GatherDims.mem_sKept _ _).mp h).2 m1)]
    simp only [Nat.zero_add, Nat.add_zero]
    unfold GatherDims.batchCoord
    rw [dif_pos m1]
    rfl
  · rw [GatherDims.batchCoord_eq_zero _ _ _ (fun h => by simp at h),
      GatherDims.offCoord_eq_zero _ _ _ (fun h => ((GatherDims.mem_sKept _ _).mp h).1 m2)]
    simp only [Nat.add_zero]
    unfold GatherDims.start
    rw [dif_pos m2]
    have hsi : (pickDims B P C wf).siIdx (ix3 b p 0) ⟨List.idxOf (2 : Fin 3) (pickDims B P C wf).startIndexMap,
        List.idxOf_lt_length_iff.2 m2⟩ = ix4 b p 0 0 := by
      funext e; refine Fin.ext ?_
      match e with
      | ⟨0, _⟩ => rfl
      | ⟨1, _⟩ => rfl
      | ⟨2, _⟩ => rfl
      | ⟨3, _⟩ => rfl
    rw [hsi]
    rfl

end Cert.Proof.Cls

end
-- ==== Proof.ClsMax.lean ====
module

public import Idealize.ShloMosaic.Lib.Pointwise

/-! The greatest entry of every row of a table of numbers, read at one row. -/

@[expose] public section

noncomputable section

namespace Cert.Proof.Cls

open Idealize.ShloMosaic

/-- The maximum along the last axis, read at a row: the maximum of the row's entries and of the start. -/
theorem rowmax_apply {B P C : Nat} (x : FVec Ideal ⟨3, ![B, P, C]⟩ .f32) (e : FVec Ideal ⟨0, ![]⟩ .f32)
    (h : (⟨3, ![B, P, C]⟩ : Shape).ReducesTo [2] ⟨2, ![B, P]⟩) (hu : 0 < (⟨0, ![]⟩ : Shape).numel) (b : Fin B) (p : Fin P) :
    Host.reduce FloatOps.maximumf x e h hu (ix2 b p) = Finset.univ.fold max (e ix0) (fun k => x (ix3 b p k)) := by
  have he : Shape.Idx.first hu = (ix0 : (⟨0, ![]⟩ : Shape).Idx) := funext fun a => a.elim0
  rw [Host.reduce_eq_fold, he]
  exact h.fold_fiber_r3_a2 (ix2 b p) _ _ _

end Cert.Proof.Cls

end
-- ==== Proof.ClsMath.lean ====
module

public import Idealize.ShloMosaic.Lib.Pointwise

/-! The loss of one row of finite scores, in the extended reals: the logarithm of the sum of the
exponentials, with and without the greatest score taken off first. -/

@[expose] public section

noncomputable section

namespace Cert.Proof.Cls

open Idealize.ShloMosaic

/-- A sum of finite numbers is finite. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The logarithm of the sum of the exponentials of a row's scores. -/
def lse {n : Nat} (x : Fin n → ℝ) : ℝ := Real.log (∑ k, Real.exp (x k))

theorem sum_exp_pos {n : Nat} [NeZero n] (x : Fin n → ℝ) : 0 < ∑ k, Real.exp (x k) :=
  Finset.sum_pos (fun k _ => Real.exp_pos _) ⟨0, Finset.mem_univ _⟩

/-- It is finite where the scores are. -/
theorem log_sum_exp {n : Nat} [NeZero n] (x : Fin n → ℝ) :
    Ideal.log (∑ k, Ideal.exp ((x k : ℝ) : EReal)) = ((lse x : ℝ) : EReal) := by
  simp only [Ideal.exp_coe]
  rw [coe_sum, Ideal.log_coe, if_neg (not_le.mpr (sum_exp_pos x))]
  rfl

/-- Taking a number off all the scores takes it off the logarithm. -/
theorem lse_sub {n : Nat} [NeZero n] (x : Fin n → ℝ) (M : ℝ) : lse (fun k => x k - M) = lse x - M := by
  unfold lse
  simp only [Real.exp_sub]
  rw [← Finset.sum_div, Real.log_div (sum_exp_pos x).ne' (Real.exp_pos M).ne', Real.log_exp]

/-- The loss of a row, computed from the shifted scores. -/
theorem shifted_loss {n : Nat} [NeZero n] (x : Fin n → ℝ) (M : ℝ) (l : Fin n) :
    -(((x l : ℝ) : EReal) - ((M : ℝ) : EReal)
        - Ideal.log (∑ k, Ideal.exp (((x k : ℝ) : EReal) - ((M : ℝ) : EReal))))
      = ((lse x - x l : ℝ) : EReal) := by
  simp only [← EReal.coe_sub]
  rw [log_sum_exp (fun k => x k - M), lse_sub, ← EReal.coe_sub, ← EReal.coe_neg]
  congr 1
  ring

/-- The greatest of some finite scores, and of what it starts from, is finite where there is one score. -/
theorem fold_max_coe {n : Nat} [NeZero n] (x : Fin n → ℝ) :
    ∃ M : ℝ, Finset.univ.fold max (⊥ : EReal) (fun k => ((x k : ℝ) : EReal)) = ((M : ℝ) : EReal) := by
  have key : ∀ s : Finset (Fin n), s.Nonempty →
      ∃ M : ℝ, s.fold max (⊥ : EReal) (fun k => ((x k : ℝ) : EReal)) = ((M : ℝ) : EReal) := by
    intro s hs
    induction hs using Finset.Nonempty.cons_induction with
    | singleton a => exact ⟨x a, by simp⟩
    | cons a s ha _ ih =>
      obtain ⟨M, hM⟩ := ih
      exact ⟨max (x a) M, by rw [Finset.fold_cons, hM]; exact (EReal.coe_strictMono.monotone.map_max).symm⟩
  exact key _ ⟨0, Finset.mem_univ _⟩

/-- The same as the reference takes it: once more against what it started from. -/
theorem max_fold_coe {n : Nat} [NeZero n] (x : Fin n → ℝ) :
    ∃ M : ℝ, max (⊥ : EReal) (Finset.univ.fold max (⊥ : EReal) (fun k => ((x k : ℝ) : EReal))) = ((M : ℝ) : EReal) := by
  obtain ⟨M, hM⟩ := fold_max_coe x
  exact ⟨M, by rw [hM]; exact max_eq_right bot_le⟩

/-- The pattern of minus infinity. -/
theorem ofBits_bot : Ideal.ofBits .f32 0xFF800000#32 = (⊥ : EReal) := by
  simp [Ideal.ofBits, Ideal.ieee]

/-- Whether a prior has an object. -/
def Pos (obj : IVec ⟨2, ![32, 20000]⟩ 32) (b : Fin 32) (p : Fin 20000) : Prop := IntOp.cmpi .sgt (obj (ix2 b p)) 0#32 = 1#1

instance (obj : IVec ⟨2, ![32, 20000]⟩ 32) (b : Fin 32) (p : Fin 20000) : Decidable (Pos obj b p) :=
  inferInstanceAs (Decidable (_ = _))

end Cert.Proof.Cls

end
-- ==== Proof.ClsRef.lean ====
module

public import proofs.«01_k».proof.Proof.Gen.Reference2Ideal.Run
public import Idealize.ShloMosaic.Lib.Pointwise
public import proofs.«01_k».proof.Proof.ClsGather
public import proofs.«01_k».proof.Proof.ClsMax
public import proofs.«01_k».proof.Proof.ClsMath

/-! The class reference's array expressions, named, and what each holds at an index: the greatest score
of a prior, its scores less that one, their log-softmax, the loss of the labelled class, the sum. -/

@[expose] public section

set_option maxRecDepth 16384

noncomputable section

namespace Cert.Proof.Cls.Ref

open Cert.Reference2Ideal Cert.Reference2Ideal.Gen
open Idealize.ShloMosaic

/-- The class of every prior, a negative one counted from the end. -/
def lidx (lab : IVec S32x20000 32) : IVec S32x20000x1x1 32 :=
  shapeCast S32x20000x1x1 (select (cmpi .slt (broadcastInDim S32x20000x1 ![0, 1] bcast_S32x20000_S32x20000x1_0_1 lab) (broadcastInDim S32x20000x1 ![] bcast_S_S32x20000x1 (constantI S_ 32 0#32))) (addi (broadcastInDim S32x20000x1 ![0, 1] bcast_S32x20000_S32x20000x1_0_1 lab) (broadcastInDim S32x20000x1 ![] bcast_S_S32x20000x1 (constantI S_ 32 81#32))) (broadcastInDim S32x20000x1 ![0, 1] bcast_S32x20000_S32x20000x1_0_1 lab)) shapeCasts_S32x20000x1_S32x20000x1x1

/-- The greatest score of every prior, taken from a start. -/
def rowMax (x : FVec Ideal S32x20000x81 .f32) (e : FVec Ideal S_ .f32) : FVec Ideal S32x20000 .f32 :=
  maximumf (broadcastInDim S32x20000 ![] bcast_S_S32x20000 e) (Host.reduce FloatOps.maximumf x e reducesTo_S32x20000x81_S32x20000_d2 h_S_)

/-- The scores less the greatest score of their prior. -/
def shifted (x : FVec Ideal S32x20000x81 .f32) : FVec Ideal S32x20000x81 .f32 :=
  subf x (broadcastInDim S32x20000x81 ![0, 1, 2] bcast_S32x20000x1_S32x20000x81_0_1_2 (broadcastInDim S32x20000x1 ![0, 1] bcast_S32x20000_S32x20000x1_0_1 (rowMax x (constant S_ .f32 0xFF800000#32))))

/-- The logarithms of the softmax of the scores. -/
def logp (x : FVec Ideal S32x20000x81 .f32) : FVec Ideal S32x20000x81 .f32 :=
  subf (shifted x) (broadcastInDim S32x20000x81 ![0, 1, 2] bcast_S32x20000x1_S32x20000x81_0_1_2 (Host.log (broadcastInDim S32x20000x1 ![0, 1] bcast_S32x20000_S32x20000x1_0_1 (Host.reduceAdd (Host.exp (shifted x)) (constant S_ .f32 0x00000000#32) reducesTo_S32x20000x81_S32x20000_d2 h_S_))))

/-- Whether the class of every prior is one of the classes. -/
def inRange (i : IVec S32x20000x1x1 32) : IVec S32x20000x1 1 :=
  Host.reduce IntOp.andi (andi (cmpi .sge i (broadcastInDim S32x20000x1x1 ![] bcast_S_S32x20000x1x1 (constantI S_ 32 0#32))) (cmpi .sle i (broadcastInDim S32x20000x1x1 ![0, 1, 2, 3] bcast_S1x1x1x1_S32x20000x1x1_0_1_2_3 (broadcastInDim S1x1x1x1 ![3] bcast_S1_S1x1x1x1_3 (constantI S1 32 80#32))))) (constantI S_ 1 1#1) reducesTo_S32x20000x1x1_S32x20000x1_d3 h_S_

/-- The loss of every prior. -/
def losses (x : FVec Ideal S32x20000x81 .f32) (obj lab : IVec S32x20000 32) : FVec Ideal S32x20000 .f32 :=
  select (cmpi .sgt obj (broadcastInDim S32x20000 ![] bcast_S_S32x20000 (constantI S_ 32 0#32)))
    (Host.negf (shapeCast S32x20000 (select (inRange (lidx lab)) (Host.gather gather_S32x20000x81_S32x20000x1x1_S32x20000x1_n_2_01_01_2_3_111 (logp x) (lidx lab)) (broadcastInDim S32x20000x1 ![] bcast_S_S32x20000x1 (constant S_ .f32 0x7FC00000#32))) shapeCasts_S32x20000x1_S32x20000))
    (broadcastInDim S32x20000 ![] bcast_S_S32x20000 (constant S_ .f32 0x00000000#32))

/-- What the reference's program ends with. -/
def result (x : FVec Ideal S32x20000x81 .f32) (obj lab : IVec S32x20000 32) (n : FVec Ideal S_ .f32) : FVec Ideal S_ .f32 :=
  Host.divf (Host.reduceAdd (losses x obj lab) (constant S_ .f32 0x00000000#32) reducesTo_S32x20000_S_d0_1 h_S_) n

theorem lidx_apply (lab : IVec S32x20000 32) (b : Fin 32) (p : Fin 20000) :
    lidx lab (ix4 b p 0 0) = Scalar.select (IntOp.cmpi .slt (lab (ix2 b p)) 0#32) (IntOp.addi (lab (ix2 b p)) 81#32) (lab (ix2 b p)) := by
  pointwise [lidx]

theorem rowMax_apply (x : FVec Ideal S32x20000x81 .f32) (e : FVec Ideal S_ .f32) (b : Fin 32) (p : Fin 20000) :
    rowMax x e (ix2 b p) = max (e ix0) (Finset.univ.fold max (e ix0) (fun k => x (ix3 b p k))) := by
  have h := rowmax_apply x e reducesTo_S32x20000x81_S32x20000_d2 h_S_ b p
  unfold rowMax
  show max (broadcastInDim S32x20000 ![] bcast_S_S32x20000 e (ix2 b p)) _ = _
  rw [h]
  pointwise

theorem shifted_apply (x : FVec Ideal S32x20000x81 .f32) (b : Fin 32) (p : Fin 20000) (k : Fin 81) :
    shifted x (ix3 b p k) = x (ix3 b p k) - rowMax x (constant S_ .f32 0xFF800000#32) (ix2 b p) := by
  pointwise [shifted]

theorem logp_apply (x : FVec Ideal S32x20000x81 .f32) (b : Fin 32) (p : Fin 20000) (k : Fin 81) :
    logp x (ix3 b p k) = shifted x (ix3 b p k) - Ideal.log (∑ k', Ideal.exp (shifted x (ix3 b p k'))) := by
  pointwise [logp]

theorem inRange_apply (i : IVec S32x20000x1x1 32) (b : Fin 32) (p : Fin 20000) :
    inRange i (ix3 b p 0) = IntOp.andi (IntOp.andi (IntOp.cmpi .sge (i (ix4 b p 0 0)) 0#32) (IntOp.cmpi .sle (i (ix4 b p 0 0)) 80#32)) 1#1 := by
  pointwise [inRange]
  simp only [Finset.univ_unique, Finset.fold_singleton]
  rfl

theorem losses_apply (x : FVec Ideal S32x20000x81 .f32) (obj lab : IVec S32x20000 32) (b : Fin 32) (p : Fin 20000) :
    losses x obj lab (ix2 b p)
      = Scalar.select (IntOp.cmpi .sgt (obj (ix2 b p)) 0#32)
        (-Scalar.select (inRange (lidx lab) (ix3 b p 0))
          (Host.gather gather_S32x20000x81_S32x20000x1x1_S32x20000x1_n_2_01_01_2_3_111 (logp x) (lidx lab) (ix3 b p 0))
          (Ideal.ofBits FTy.f32 2143289344#32)) 0 := by
  pointwise [losses]

theorem result_apply (x : FVec Ideal S32x20000x81 .f32) (obj lab : IVec S32x20000 32) (n : FVec Ideal S_ .f32) :
    result x obj lab n ix0 = Ideal.div (∑ b, ∑ p, losses x obj lab (ix2 b p)) (n ix0) := by
  pointwise [result]

end Cert.Proof.Cls.Ref

end
-- ==== Proof.ClsLoss.lean ====
module

public import proofs.«01_k».proof.Proof.ClsValue
public import proofs.«01_k».proof.Proof.ClsRef

/-! The loss of one prior, which if it has an object has finite scores and a class that is one of the classes: what the class
call adds for it and what the reference adds for it are the same finite number. -/

@[expose] public section

set_option maxRecDepth 16384

noncomputable section

namespace Cert.Proof.Cls

open Idealize.ShloMosaic

/-- The loss of a prior: nothing for one without an object. -/
def loss (r : Fin 32 → Fin 20000 → Fin 81 → ℝ) (obj : IVec ⟨2, ![32, 20000]⟩ 32) (l : Fin 32 → Fin 20000 → Fin 81) (b : Fin 32) (p : Fin 20000) : ℝ :=
  if Pos obj b p then lse (r b p) - r b p (l b p) else 0

theorem flag_zero {c : BitVec 1} (h : ¬ c = 1#1) : c = 0#1 := by
  revert h; revert c; decide

/-! ## The words of a class -/

theorem class_eq : ∀ z l : Fin 81, IntOp.cmpi .eq (BitVec.ofNat 32 z.val) (BitVec.ofNat 32 l.val) = if z = l then 1#1 else 0#1 := by
  decide +kernel

theorem class_ne : ∀ z : Fin 81, IntOp.cmpi .eq (BitVec.ofNat 32 z.val) 4294967295#32 = 0#1 := by decide +kernel

theorem class_nonneg : ∀ l : Fin 81, IntOp.cmpi .slt (BitVec.ofNat 32 l.val) 0#32 = 0#1 := by decide +kernel

theorem class_in : ∀ l : Fin 81,
    IntOp.andi (IntOp.andi (IntOp.cmpi .sge (BitVec.ofNat 32 l.val) 0#32) (IntOp.cmpi .sle (BitVec.ofNat 32 l.val) 80#32)) 1#1 = 1#1 := by
  decide +kernel

theorem class_nat : ∀ l : Fin 81, min (BitVec.ofNat 32 l.val).toInt.toNat (81 - 1) = l.val := by decide +kernel

/-! ## The class call -/

section
variable (x : FVec Ideal ⟨3, ![32, 20000, 81]⟩ .f32) (obj lab : IVec ⟨2, ![32, 20000]⟩ 32)
  (r : Fin 32 → Fin 20000 → Fin 81 → ℝ) (hx : ∀ b p, Pos obj b p → ∀ k, x (ix3 b p k) = ((r b p k : ℝ) : EReal))
  (l : Fin 32 → Fin 20000 → Fin 81) (hl : ∀ b p, Pos obj b p → lab (ix2 b p) = BitVec.ofNat 32 (l b p).val)

include hx in
/-- The weighted logarithm of a prior. -/
theorem weighted (b : Fin 32) (p : Fin 20000) :
    weights (F := Ideal) obj (ix3 b p 0) * Ideal.log (∑ z : Fin 81, Ideal.exp (x (ix3 b p z)))
      = (((if Pos obj b p then lse (r b p) else 0) : ℝ) : EReal) := by
  rw [weights_apply]
  by_cases h : Pos obj b p
  · simp only [hx b p h]
    rw [log_sum_exp (r b p), if_pos h, show IntOp.cmpi .sgt (obj (ix2 b p)) 0#32 = 1#1 from h]
    simp
  · rw [if_neg h, flag_zero (show ¬ IntOp.cmpi .sgt (obj (ix2 b p)) 0#32 = 1#1 from h)]
    simp

include hx hl in
/-- The score that a prior's class picks. -/
theorem picked (b : Fin 32) (p : Fin 20000) :
    (∑ z : Fin 81, Scalar.select (IntOp.cmpi .eq (BitVec.ofNat 32 z.val) (labels obj lab (ix3 b p 0))) (x (ix3 b p z)) 0)
      = (((if Pos obj b p then r b p (l b p) else 0) : ℝ) : EReal) := by
  rw [labels_apply]
  by_cases h : Pos obj b p
  · rw [if_pos h, show IntOp.cmpi .sgt (obj (ix2 b p)) 0#32 = 1#1 from h, hl b p h]
    have e : ∀ z : Fin 81, Scalar.select (IntOp.cmpi .eq (BitVec.ofNat 32 z.val) (Scalar.select 1#1 (BitVec.ofNat 32 (l b p).val) 4294967295#32)) (x (ix3 b p z)) 0
        = if z = l b p then ((r b p (l b p) : ℝ) : EReal) else 0 := by
      intro z
      show Scalar.select (IntOp.cmpi .eq (BitVec.ofNat 32 z.val) (BitVec.ofNat 32 (l b p).val)) _ _ = _
      rw [class_eq]
      by_cases hz : z = l b p
      · rw [if_pos hz, if_pos hz, hx b p h, hz]; rfl
      · rw [if_neg hz, if_neg hz]; rfl
    rw [Finset.sum_congr rfl fun z _ => e z, Finset.sum_ite_eq' Finset.univ (l b p), if_pos (Finset.mem_univ _)]
  · rw [if_neg h, flag_zero (show ¬ IntOp.cmpi .sgt (obj (ix2 b p)) 0#32 = 1#1 from h)]
    have e : ∀ z : Fin 81, Scalar.select (IntOp.cmpi .eq (BitVec.ofNat 32 z.val) (Scalar.select 0#1 (lab (ix2 b p)) 4294967295#32)) (x (ix3 b p z)) 0 = 0 := by
      intro z
      show Scalar.select (IntOp.cmpi .eq (BitVec.ofNat 32 z.val) 4294967295#32) _ _ = _
      rw [class_ne]; rfl
    rw [Finset.sum_congr rfl fun z _ => e z]
    simp

include hx hl in
/-- What a block of priors adds to the running sum: their losses. -/
theorem blockSum_eq (b : Fin 32) (k : Fin 5) :
    blockSum x (weights (F := Ideal) obj) (labels obj lab) b k = ((∑ q : Fin 4000, loss r obj l b (row k q) : ℝ) : EReal) := by
  unfold blockSum
  rw [Finset.sum_congr rfl fun q _ => weighted x obj r hx b (row k q), Finset.sum_congr rfl fun q _ => picked x obj lab r hx l hl b (row k q),
    coe_sum, coe_sum, ← EReal.coe_sub, ← Finset.sum_sub_distrib]
  congr 1
  refine Finset.sum_congr rfl fun q _ => ?_
  unfold loss
  split
  · rfl
  · exact sub_zero _

/-- The priors, block after block. -/
theorem sum_rows (f : Fin 20000 → ℝ) : (∑ k : Fin 5, ∑ q : Fin 4000, f (row k q)) = ∑ p, f p := by
  rw [← Fintype.sum_prod_type' (fun (k : Fin 5) (q : Fin 4000) => f (row k q))]
  refine Fintype.sum_equiv (finProdFinEquiv (m := 5) (n := 4000)) _ _ fun y => ?_
  congr 1
  refine Fin.ext ?_
  show y.1.val * 4000 + y.2.val = y.2.val + 4000 * y.1.val
  omega

include hx hl in
/-- The whole sum of the class call. -/
theorem kernel_sum :
    (∑ b : Fin 32, ∑ k : Fin 5, blockSum x (weights (F := Ideal) obj) (labels obj lab) b k)
      = ((∑ b : Fin 32, ∑ p : Fin 20000, loss r obj l b p : ℝ) : EReal) := by
  rw [← coe_sum]
  refine Finset.sum_congr rfl fun b _ => ?_
  rw [Finset.sum_congr rfl fun k _ => blockSum_eq x obj lab r hx l hl b k, coe_sum, sum_rows]

/-! ## The reference -/

include hl in
theorem lidx_eq (b : Fin 32) (p : Fin 20000) (h : Pos obj b p) : Ref.lidx lab (ix4 b p 0 0) = BitVec.ofNat 32 (l b p).val := by
  rw [Ref.lidx_apply, hl b p h, class_nonneg]; rfl

include hx in
/-- The loss of a class of a prior, whose scores are first taken a finite number down. -/
theorem logp_eq (b : Fin 32) (p : Fin 20000) (h : Pos obj b p) (k : Fin 81) :
    -Ref.logp x (ix3 b p k) = ((lse (r b p) - r b p k : ℝ) : EReal) := by
  obtain ⟨M, hM⟩ := max_fold_coe (r b p)
  have hmax : Ref.rowMax x (constant Cert.Reference2Ideal.S_ .f32 0xFF800000#32) (ix2 b p) = ((M : ℝ) : EReal) := by
    rw [Ref.rowMax_apply]
    show max (Ideal.ofBits .f32 0xFF800000#32) (Finset.univ.fold max (Ideal.ofBits .f32 0xFF800000#32) _) = _
    rw [ofBits_bot]
    simp only [hx b p h]
    exact hM
  rw [Ref.logp_apply]
  simp only [Ref.shifted_apply, hmax, hx b p h]
  exact shifted_loss (r b p) M k

include hl in
/-- The logarithm that the reference picks. -/
theorem gathered (b : Fin 32) (p : Fin 20000) (h : Pos obj b p) :
    Host.gather Cert.Reference2Ideal.gather_S32x20000x81_S32x20000x1x1_S32x20000x1_n_2_01_01_2_3_111 (Ref.logp x) (Ref.lidx lab) (ix3 b p 0)
      = Ref.logp x (ix3 b p (l b p)) := by
  refine (pick_apply (by decide) _ (Ref.logp x) (Ref.lidx lab) b p).trans ?_
  congr 2
  refine Fin.ext ?_
  show min (Ref.lidx lab (ix4 b p 0 0)).toInt.toNat (81 - 1) = (l b p).val
  rw [lidx_eq obj lab l hl b p h, class_nat]

include hx hl in
/-- What the reference adds for a prior: its loss. -/
theorem losses_eq (b : Fin 32) (p : Fin 20000) : Ref.losses x obj lab (ix2 b p) = ((loss r obj l b p : ℝ) : EReal) := by
  rw [Ref.losses_apply]
  unfold loss
  by_cases h : Pos obj b p
  · rw [Ref.inRange_apply, lidx_eq obj lab l hl b p h, class_in, gathered x obj lab l hl b p h, if_pos h,
      show IntOp.cmpi .sgt (obj (ix2 b p)) 0#32 = 1#1 from h]
    exact logp_eq x obj r hx b p h (l b p)
  · rw [if_neg h, flag_zero (show ¬ IntOp.cmpi .sgt (obj (ix2 b p)) 0#32 = 1#1 from h)]
    exact EReal.coe_zero.symm

include hx hl in
/-- The whole sum of the reference. -/
theorem reference_sum :
    (∑ b : Fin 32, ∑ p : Fin 20000, Ref.losses x obj lab (ix2 b p)) = ((∑ b : Fin 32, ∑ p : Fin 20000, loss r obj l b p : ℝ) : EReal) := by
  rw [← coe_sum]
  refine Finset.sum_congr rfl fun b _ => ?_
  rw [Finset.sum_congr rfl fun p _ => losses_eq x obj lab r hx l hl b p, coe_sum]

end

end Cert.Proof.Cls

end
-- ==== Proof.ClsPre.lean ====
module

public import proofs.«01_k».proof.Pre_finite_and_in_range
public import proofs.«01_k».proof.Proof.ClsMath

/-! What the precondition gives: a prior with an object has scores that are finite numbers, and a class
that is one of the classes. -/

@[expose] public section

set_option maxRecDepth 16384

noncomputable section

namespace Cert.Proof.Cls

open Idealize.ShloMosaic
open Cert.Pre_finite_and_in_range

/-- The precondition's shape relations. -/
theorem pre_facts : Cert.Pre_finite_and_in_range.Facts where
  bcast_S_S32x20000x81 := by decide
  bcast_S_S32x20000 := by decide
  bcast_S32x20000_S32x20000x1_0_1 := by decide
  bcast_S32x20000x1_S32x20000x81_0_1_2 := by decide

variable [Cert.Pre_finite_and_in_range.Facts]

theorem and_one {a b : BitVec 1} (h : IntOp.andi a b = 1#1) : a = 1#1 ∧ b = 1#1 := by
  revert h; revert a b; decide

theorem or_one {a b : BitVec 1} (h : IntOp.ori a b = 1#1) : a = 1#1 ∨ b = 1#1 := by
  revert h; revert a b; decide

/-- A word that is above zero as a signed integer is not at most zero. -/
theorem not_le_of_pos (v : BitVec 32) (h1 : IntOp.cmpi .sgt v 0#32 = 1#1) (h2 : IntOp.cmpi .sle v 0#32 = 1#1) : False := by
  have g1 : (0#32).slt v = true := by
    by_contra hn
    rw [Bool.not_eq_true] at hn
    have : IntOp.cmpi .sgt v 0#32 = 0#1 := by unfold IntOp.cmpi; simp [hn]
    rw [this] at h1; exact absurd h1 (by decide)
  have g2 : v.sle 0#32 = true := by
    by_contra hn
    rw [Bool.not_eq_true] at hn
    have : IntOp.cmpi .sle v 0#32 = 0#1 := by unfold IntOp.cmpi; simp [hn]
    rw [this] at h2; exact absurd h2 (by decide)
  rw [BitVec.slt_iff_toInt_lt] at g1
  rw [BitVec.sle_iff_toInt_le] at g2
  omega

/-- The precondition at one score of a prior with an object. -/
theorem pre_at (x : FVec Ideal S32x20000x81 .f32) (obj lab : IVec S32x20000 32) (n : FVec Ideal S_ .f32)
    (h : Cert.Pre_finite_and_in_range.fn (F := Ideal) x obj lab n = fun _ => 1#1) (b : Fin 32) (p : Fin 20000) (k : Fin 81) (hp : Pos obj b p) :
    Ideal.cmp .olt (max (x (ix3 b p k)) (-x (ix3 b p k))) (Ideal.ofBits .f32 0x7F800000#32) = 1#1
      ∧ IntOp.cmpi .sge (lab (ix2 b p)) 0#32 = 1#1 ∧ IntOp.cmpi .slt (lab (ix2 b p)) 81#32 = 1#1 := by
  have e : Cert.Pre_finite_and_in_range.fn (F := Ideal) x obj lab n (ix3 b p k)
      = IntOp.ori (IntOp.cmpi .sle (obj (ix2 b p)) 0#32)
        (IntOp.andi (IntOp.andi (Ideal.cmp .olt (max (x (ix3 b p k)) (-x (ix3 b p k))) (Ideal.ofBits .f32 0x7F800000#32)) (IntOp.cmpi .sge (lab (ix2 b p)) 0#32))
          (IntOp.cmpi .slt (lab (ix2 b p)) 81#32)) := by
    pointwise [Cert.Pre_finite_and_in_range.fn]
    rfl
  rw [h] at e
  rcases or_one e.symm with hle | hand
  · exact (not_le_of_pos _ hp hle).elim
  · obtain ⟨h1, h2⟩ := and_one hand
    exact ⟨(and_one h1).1, (and_one h1).2, h2⟩

/-- A score under the precondition is a finite number. -/
theorem finite_of (v : EReal) (h : Ideal.cmp .olt (max v (-v)) (Ideal.ofBits .f32 0x7F800000#32) = 1#1) : v = ((v.toReal : ℝ) : EReal) := by
  have ht : Ideal.ofBits .f32 0x7F800000#32 = (⊤ : EReal) := by simp [Ideal.ofBits, Ideal.ieee]
  rw [ht] at h
  have hlt : max v (-v) < ⊤ := by
    by_contra hn
    unfold Ideal.cmp at h
    simp only [decide_eq_false hn] at h
    exact absurd h (by decide)
  have h1 : v ≠ ⊤ := fun e => by rw [e] at hlt; simp at hlt
  have h2 : v ≠ ⊥ := fun e => by rw [e] at hlt; simp at hlt
  exact (EReal.coe_toReal h1 h2).symm

/-- A word from zero to eighty as signed integers is a class. -/
theorem class_of (v : BitVec 32) (h1 : IntOp.cmpi .sge v 0#32 = 1#1) (h2 : IntOp.cmpi .slt v 81#32 = 1#1) : v.toNat < 81 := by
  have g1 : (0#32).sle v = true := by
    by_contra hn
    rw [Bool.not_eq_true] at hn
    have : IntOp.cmpi .sge v 0#32 = 0#1 := by unfold IntOp.cmpi; simp [hn]
    rw [this] at h1; exact absurd h1 (by decide)
  have g2 : v.slt 81#32 = true := by
    by_contra hn
    rw [Bool.not_eq_true] at hn
    have : IntOp.cmpi .slt v 81#32 = 0#1 := by unfold IntOp.cmpi; simp [hn]
    rw [this] at h2; exact absurd h2 (by decide)
  rw [BitVec.sle_iff_toInt_le] at g1
  rw [BitVec.slt_iff_toInt_lt] at g2
  have e0 : (0#32).toInt = 0 := by decide
  have e81 : (81#32).toInt = 81 := by decide
  rw [e0] at g1
  rw [e81] at g2
  rw [BitVec.toInt_eq_toNat_cond] at g1 g2
  have := v.isLt
  split at g1 <;> omega

/-- The scores as finite numbers and the classes as classes. -/
theorem pre_gives (x : FVec Ideal S32x20000x81 .f32) (obj lab : IVec S32x20000 32) (n : FVec Ideal S_ .f32)
    (h : Cert.Pre_finite_and_in_range.fn (F := Ideal) x obj lab n = fun _ => 1#1) :
    ∃ (r : Fin 32 → Fin 20000 → Fin 81 → ℝ) (l : Fin 32 → Fin 20000 → Fin 81),
      (∀ b p, Pos obj b p → ∀ k, x (ix3 b p k) = ((r b p k : ℝ) : EReal))
      ∧ ∀ b p, Pos obj b p → lab (ix2 b p) = BitVec.ofNat 32 (l b p).val := by
  refine ⟨fun b p k => (x (ix3 b p k)).toReal,
    fun b p => ⟨(lab (ix2 b p)).toNat % 81, Nat.mod_lt _ (by decide)⟩,
    fun b p hp k => finite_of _ (pre_at x obj lab n h b p k hp).1, fun b p hp => ?_⟩
  have hlt := class_of _ (pre_at x obj lab n h b p 0 hp).2.1 (pre_at x obj lab n h b p 0 hp).2.2
  show lab (ix2 b p) = BitVec.ofNat 32 ((lab (ix2 b p)).toNat % 81)
  rw [Nat.mod_eq_of_lt hlt, BitVec.ofNat_toNat, BitVec.setWidth_eq]

end Cert.Proof.Cls

end
-- ==== Proof.ClsClaims.lean ====
module

public import proofs.«01_k».proof.Defs
public import proofs.«01_k».proof.Proof.ClsLoss
public import proofs.«01_k».proof.Proof.ClsPre
public import proofs.«01_k».proof.Proof.Gen.Kernel2
public import Idealize.ShloMosaic.Lib.Pipeline.Value

/-! The claims on the class call: its program and the reference's run and leave their arguments and
their counters as they were, and in the extended reals the two return the same number. -/

@[expose] public section

set_option maxRecDepth 16384

noncomputable section

namespace Cert.Proof.Cls

open Idealize.ShloMosaic Idealize.ShloMosaic.TcCoe
open Idealize.SL.Sem

/-- The class call's two programs have the same body, at any reading of the float operations. -/
theorem body_eq {F : FTy → Type} [FloatOps F] : Cert.Kernel2.defs₀ (F := F) = Cert.Kernel2Ideal.defs₀ (F := F) := by
  unfold Cert.Kernel2.defs₀ Cert.Kernel2Ideal.defs₀
  congr 1
  funext l a
  match l with
  | 0 => rfl

/-- And the same table of bodies, the pipeline's own among them. -/
theorem defs_eq {F : FTy → Type} [FloatOps F] : Cert.Kernel2.defs (F := F) = Cert.Kernel2Ideal.defs (F := F) :=
  congrArg (Pipeline.defs Cert.Kernel2.pcfgs) body_eq

/-- And the same host program. -/
theorem main_eq {F : FTy → Type} [FloatOps F] : Cert.Kernel2.main (F := F) = Cert.Kernel2Ideal.main (F := F) := by
  unfold Cert.Kernel2.main Cert.Kernel2Ideal.main Cert.Kernel2.fn_where.body Cert.Kernel2Ideal.fn_where.body
  rfl

/-- The class call on bits: the run that the pipeline's frame follows at any reading, cited for the
program of the same text. -/
theorem frame_kernel : Cert.quiescent_Kernel2 := by
  intro m g _
  have h := Cert.Kernel2Ideal.Gen.frame (F := Bits) m g
  rw [← defs_eq, ← main_eq] at h
  exact h

/-- The class call in the extended reals. -/
theorem frame_kernel_ideal : Cert.quiescent_Kernel2Ideal := fun m g _ => Cert.Kernel2Ideal.Gen.frame (F := Ideal) m g

theorem frame_reference (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

/-- What the class call's program returns. -/
theorem kernel_result (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v12)
        = result (final m c) (m ((c.tc : Thread Cert.Kernel2Ideal.nD Cert.Kernel2Ideal.τ).loc Cert.Kernel2Ideal.main_arg3))) :=
  (θ_run _ _ _).mono (fun _ h c =>
    ((h c).2 _ (Pipeline.mem_restRefs_of Cert.Kernel2Ideal.main_v12 (by decide) (by decide))).trans (tail_v12 m c)) (Cert.Kernel2Ideal.Gen.run_main m g)

/-- What the reference's program returns. -/
theorem reference_result (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => ∀ c : Dev Cert.Reference2Ideal.nD,
      r.2.mem ((c.tc : Thread Cert.Reference2Ideal.nD Cert.Reference2Ideal.τ).loc Cert.Reference2Ideal.main_v9)
        = Ref.result (m ((c.tc : Thread Cert.Reference2Ideal.nD Cert.Reference2Ideal.τ).loc Cert.Reference2Ideal.main_arg0))
          (m ((c.tc : Thread Cert.Reference2Ideal.nD Cert.Reference2Ideal.τ).loc Cert.Reference2Ideal.main_arg1))
          (m ((c.tc : Thread Cert.Reference2Ideal.nD Cert.Reference2Ideal.τ).loc Cert.Reference2Ideal.main_arg2))
          (m ((c.tc : Thread Cert.Reference2Ideal.nD Cert.Reference2Ideal.τ).loc Cert.Reference2Ideal.main_arg3))) :=
  (θ_run Cert.Reference2Ideal.defs _ _).mono (fun _ h c => (h c).1) (Cert.Reference2Ideal.Value.run (F := Ideal) m g)

/-- The two numbers are equal, of arguments that the precondition holds of. -/
theorem results_agree [Cert.Pre_finite_and_in_range.Facts]
    (x : FVec Ideal ⟨3, ![32, 20000, 81]⟩ .f32) (obj lab : IVec ⟨2, ![32, 20000]⟩ 32) (n : FVec Ideal ⟨0, ![]⟩ .f32)
    (h : Cert.Pre_finite_and_in_range.fn (F := Ideal) x obj lab n = fun _ => 1#1) :
    Ref.result x obj lab n
      = fun _ => Ideal.div (∑ b : Fin 32, ∑ k : Fin 5, blockSum x (weights (F := Ideal) obj) (labels obj lab) b k) (n ix0) := by
  obtain ⟨r, l, hx, hl⟩ := pre_gives x obj lab n h
  funext y
  have hy : y = (ix0 : (⟨0, ![]⟩ : Shape).Idx) := funext fun a => a.elim0
  rw [hy, Ref.result_apply, reference_sum x obj lab r hx l hl, kernel_sum x obj lab r hx l hl]

theorem algebraic [Cert.Pre_finite_and_in_range.Facts] : Cert.algebraic_Kernel2Ideal_Reference2Ideal_pre_finite_and_in_range := by
  intro m g m' g' hpre ha
  refine ⟨fun c => result (final m c) (m ((c.tc : Thread Cert.Kernel2Ideal.nD Cert.Kernel2Ideal.τ).loc Cert.Kernel2Ideal.main_arg3)), ?_, ?_⟩
  · exact (θ_run _ _ _).mono (fun _ h c => ⟨h.1 c, h.2.1 c⟩) (θ_run_and (kernel_result m g) (Cert.Kernel2Ideal.Gen.frame (F := Ideal) m g))
  · refine (θ_run _ _ _).mono (fun _ h c => ?_) (θ_run_and (reference_result m' g') (frame_reference m' g'))
    obtain ⟨h0, h1, h2, h3⟩ := ha c
    refine ⟨(h.1 c).trans ?_, h.2.1 c⟩
    rw [h0, h1, h2, h3]
    exact (results_agree _ _ _ _ (hpre c)).trans (result_final m c).symm

end Cert.Proof.Cls

end
-- ==== Proof.lean ====
/-
  The certificate's claim. The row call and its reference run, leave their arguments and their counters as they were, and return
  the same bits. The class call and its reference run, leave their arguments and their counters as they were, and in the extended
  reals return the same number.
-/
module

public import proofs.«01_k».proof.Defs
public import proofs.«01_k».proof.Proof.Agree
public import proofs.«01_k».proof.Proof.ClsClaims

@[expose] public section

set_option maxRecDepth 16384

noncomputable section

namespace Cert.Proof

open Idealize.ShloMosaic Idealize.ShloMosaic.TcCoe
open Idealize.SL.Sem

/-- What the two results of the row call's program hold. -/
theorem kernel_results (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_v45) = Row.boxResult (F := Bits) (Row.final m c)
      ∧ r.2.mem ((c.tc : Thread Cert.Kernel.nD Cert.Kernel.τ).loc Cert.Kernel.main_v41) = Row.objResult (F := Bits) (Row.final m c)) :=
  (θ_run _ _ _).mono (fun _ h c =>
    ⟨((h c).2 _ (Pipeline.mem_restRefs_of Cert.Kernel.main_v45 (by decide) (by decide))).trans (Row.tail_v45 m c),
     ((h c).2 _ (Pipeline.mem_restRefs_of Cert.Kernel.main_v41 (by decide) (by decide))).trans (Row.tail_v41 m c)⟩) (Row.run_main m g)

/-- What the two results of its reference hold. -/
theorem reference_results (m : (ℓ : Loc Cert.Reference.nD Cert.Reference.τ Cert.Reference.sig) → Buf (Elt Bits) ℓ) (g : Dev Cert.Reference.nD → PrngReg) :
    θ_run (Cert.Reference.defs (F := Bits)) (onTc (τ := Cert.Reference.τ) (Cert.Reference.main (F := Bits))) ⟨m, fun _ => 0, g⟩ (fun r => ∀ c : Dev Cert.Reference.nD,
      r.2.mem ((c.tc : Thread Cert.Reference.nD Cert.Reference.τ).loc Cert.Reference.main_v53) = Ref.boxResult (F := Bits) (Ref.final m c)
      ∧ r.2.mem ((c.tc : Thread Cert.Reference.nD Cert.Reference.τ).loc Cert.Reference.main_v57) = Ref.objResult (F := Bits) (Ref.final m c)) :=
  (θ_run _ _ _).mono (fun _ h c =>
    ⟨((h c).2 _ (Pipeline.mem_restRefs_of Cert.Reference.main_v53 (by decide) (by decide))).trans (Ref.tail_v53 m c),
     ((h c).2 _ (Pipeline.mem_restRefs_of Cert.Reference.main_v57 (by decide) (by decide))).trans (Ref.tail_v57 m c)⟩) (Ref.run_main m g)

/-- The two arrays are equal where the arguments are. -/
theorem final_agree (m : (ℓ : Loc Cert.Kernel.nD Cert.Kernel.τ Cert.Kernel.sig) → Buf (Elt Bits) ℓ)
    (m' : (ℓ : Loc Cert.Reference.nD Cert.Reference.τ Cert.Reference.sig) → Buf (Elt Bits) ℓ) (c : Dev Cert.Kernel.nD)
    (h0 : m' ((c.tc : Thread Cert.Reference.nD Cert.Reference.τ).loc Cert.Reference.main_arg0) = m ((c.tc : Thread Cert.Kernel.nD Cert.Kernel.τ).loc Cert.Kernel.main_arg0))
    (h1 : m' ((c.tc : Thread Cert.Reference.nD Cert.Reference.τ).loc Cert.Reference.main_arg1) = m ((c.tc : Thread Cert.Kernel.nD Cert.Kernel.τ).loc Cert.Kernel.main_arg1))
    (h2 : m' ((c.tc : Thread Cert.Reference.nD Cert.Reference.τ).loc Cert.Reference.main_arg2) = m ((c.tc : Thread Cert.Kernel.nD Cert.Kernel.τ).loc Cert.Kernel.main_arg2))
    (h3 : m' ((c.tc : Thread Cert.Reference.nD Cert.Reference.τ).loc Cert.Reference.main_arg3) = m ((c.tc : Thread Cert.Kernel.nD Cert.Kernel.τ).loc Cert.Kernel.main_arg3))
    (h4 : m' ((c.tc : Thread Cert.Reference.nD Cert.Reference.τ).loc Cert.Reference.main_arg4) = m ((c.tc : Thread Cert.Kernel.nD Cert.Kernel.τ).loc Cert.Kernel.main_arg4))
    (h5 : m' ((c.tc : Thread Cert.Reference.nD Cert.Reference.τ).loc Cert.Reference.main_arg5) = m ((c.tc : Thread Cert.Kernel.nD Cert.Kernel.τ).loc Cert.Kernel.main_arg5)) :
    Ref.final m' c = Row.final m c := by
  rw [Ref.final_eq, Row.final_eq, Ref.V_v32, Ref.V_v36, Ref.V_v40, Ref.V_v44, Ref.V_v11, Ref.V_v28, Row.V_v3, Row.V_v12, Row.V_v19, Row.V_v26,
    Row.V_v4, Row.V_v5, Row.V_v32, h0, h1, h2, h3, h4, h5]
  exact (Row.rows_eq _ _ _ _ _ _ _ _).symm

/-- The row call and its reference return the same bits. -/
theorem bitexact : Cert.bitexact_Kernel_Reference := by
  intro m g m' g' _ ha
  refine ⟨fun c => Row.boxResult (F := Bits) (Row.final m c), fun c => Row.objResult (F := Bits) (Row.final m c), ?_, ?_⟩
  · exact (θ_run _ _ _).mono (fun _ h c => ⟨(h.1 c).1, (h.1 c).2, h.2.1 c⟩) (θ_run_and (kernel_results m g) (Row.frame_holds m g))
  · refine (θ_run _ _ _).mono (fun _ h c => ?_) (θ_run_and (reference_results m' g') (Ref.frame_holds m' g'))
    obtain ⟨h0, h1, h2, h3, h4, h5⟩ := ha c
    have hf := final_agree m m' c h0 h1 h2 h3 h4 h5
    refine ⟨(h.1 c).1.trans ?_, (h.1 c).2.trans ?_, h.2.1 c⟩
    · rw [hf]; rfl
    · rw [hf]; rfl

/-- The claim. -/
theorem claim : Cert.Claim :=
  ⟨Cert.Kernel.Gen.facts, Cert.Reference.Gen.facts, Cert.Kernel2.Gen.facts, Cert.Kernel2Ideal.Gen.facts, Cert.Reference2Ideal.Gen.facts,
    Cls.pre_facts, fun m g _ => Row.frame_holds m g, fun m g _ => Ref.frame_holds m g, Cls.frame_kernel, Cls.frame_kernel_ideal,
    fun m g _ => Cert.Kernel2Ideal.Gen.frame (F := Ideal) m g, fun m g _ => Cls.frame_reference m g, fun m g _ => Cls.frame_reference m g,
    bitexact, trivial, @Cls.algebraic Cls.pre_facts⟩

end Cert.Proof

end
